-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts) (hPre_inputs : Cert.Pre_inputs.Facts),
    quiescent_Kernel (hKernel := hKernel) (hPre_in_range := hPre_in_range)
    ∧ quiescent_KernelIdeal (hKernelIdeal := hKernelIdeal) (hPre_in_range := hPre_in_range)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal_pre_inputs (hKernelIdeal := hKernelIdeal) (hReferenceIdeal := hReferenceIdeal) (hPre_inputs := hPre_inputs)
-- ==== Pre_in_range.lean ====
abbrev S8x32768 : Shape := ⟨2, ![8, 32768]⟩
abbrev S1x1x1x4096 : Shape := ⟨4, ![1, 1, 1, 4096]⟩
abbrev S_ : Shape := ⟨0, ![]⟩

class Facts : Prop where
  bcast_S_S8x32768 : S_.BroadcastsInDim S8x32768 (![] : Fin 0 → Fin S8x32768.rank)
  reducesTo_S8x32768_S_d0_1 : S8x32768.ReducesTo [0, 1] S_
  h_S_ : 0 < S_.numel

variable [Facts]

def fn {F : FTy → Type} [FloatOps F] (main_arg0 : IVec S8x32768 32) (main_arg1 : FVec F S1x1x1x4096 .f32) : IVec S_ 1 :=
  let main_c : IVec S_ 32 := constantI S_ 32 0#32
  let main_v0 : IVec S8x32768 32 := broadcastInDim S8x32768 ![] bcast_S_S8x32768 main_c
  let main_v1 : IVec S8x32768 1 := cmpi .sge main_arg0 main_v0
  let main_c_0 : IVec S_ 32 := constantI S_ 32 128#32
  let main_v2 : IVec S8x32768 32 := broadcastInDim S8x32768 ![] bcast_S_S8x32768 main_c_0
  let main_v3 : IVec S8x32768 1 := cmpi .slt main_arg0 main_v2
  let main_v4 : IVec S8x32768 1 := andi main_v1 main_v3
  let main_c_1 : IVec S_ 1 := constantI S_ 1 1#1
  let main_v5 : IVec S_ 1 := (fun x v => Host.reduce IntOp.andi x v reducesTo_S8x32768_S_d0_1 h_S_) main_v4 main_c_1
  main_v5
-- ==== Pre_inputs.lean ====
abbrev S8x32768 : Shape := ⟨2, ![8, 32768]⟩
abbrev S1x1x1x4096 : Shape := ⟨4, ![1, 1, 1, 4096]⟩
abbrev S_ : Shape := ⟨0, ![]⟩

class Facts : Prop where
  bcast_S_S8x32768 : S_.BroadcastsInDim S8x32768 (![] : Fin 0 → Fin S8x32768.rank)
  reducesTo_S8x32768_S_d0_1 : S8x32768.ReducesTo [0, 1] S_
  h_S_ : 0 < S_.numel
  bcast_S_S1x1x1x4096 : S_.BroadcastsInDim S1x1x1x4096 (![] : Fin 0 → Fin S1x1x1x4096.rank)
  reducesTo_S1x1x1x4096_S_d0_1_2_3 : S1x1x1x4096.ReducesTo [0, 1, 2, 3] S_

variable [Facts]

def fn {F : FTy → Type} [FloatOps F] (main_arg0 : IVec S8x32768 32) (main_arg1 : FVec F S1x1x1x4096 .f32) : IVec S_ 1 :=
  let main_c : IVec S_ 32 := constantI S_ 32 0#32
  let main_v0 : IVec S8x32768 32 := broadcastInDim S8x32768 ![] bcast_S_S8x32768 main_c
  let main_v1 : IVec S8x32768 1 := cmpi .sge main_arg0 main_v0
  let main_c_0 : IVec S_ 32 := constantI S_ 32 128#32
  let main_v2 : IVec S8x32768 32 := broadcastInDim S8x32768 ![] bcast_S_S8x32768 main_c_0
  let main_v3 : IVec S8x32768 1 := cmpi .slt main_arg0 main_v2
  let main_v4 : IVec S8x32768 1 := andi main_v1 main_v3
  let main_c_1 : IVec S_ 1 := constantI S_ 1 1#1
  let main_v5 : IVec S_ 1 := (fun x v => Host.reduce IntOp.andi x v reducesTo_S8x32768_S_d0_1 h_S_) main_v4 main_c_1
  let main_cst : FVec F S_ .f32 := constant S_ .f32 0x3F800000#32
  let main_v6 : FVec F S1x1x1x4096 .f32 := broadcastInDim S1x1x1x4096 ![] bcast_S_S1x1x1x4096 main_cst
  let main_v7 : IVec S1x1x1x4096 1 := cmpf .oeq main_arg1 main_v6
  let main_c_2 : IVec S_ 1 := constantI S_ 1 1#1
  let main_v8 : IVec S_ 1 := (fun x v => Host.reduce IntOp.andi x v reducesTo_S1x1x1x4096_S_d0_1_2_3 h_S_) main_v7 main_c_2
  let main_v9 : IVec S_ 1 := andi main_v5 main_v8
  main_v9
-- ==== Kernel.lean ====
abbrev S8x32768 : Shape := ⟨2, ![8, 32768]⟩
abbrev S1x1x1x4096 : Shape := ⟨4, ![1, 1, 1, 4096]⟩
abbrev S262144 : Shape := ⟨1, ![262144]⟩
abbrev S32x80 : Shape := ⟨2, ![32, 80]⟩
abbrev S12288 : Shape := ⟨1, ![12288]⟩
abbrev S512 : Shape := ⟨1, ![512]⟩
abbrev S80 : Shape := ⟨1, ![80]⟩
abbrev S_ : Shape := ⟨0, ![]⟩
abbrev S16 : Shape := ⟨1, ![16]⟩
abbrev S1x80 : Shape := ⟨2, ![1, 80]⟩
abbrev S8x4x80 : Shape := ⟨3, ![8, 4, 80]⟩
abbrev S8x1x64 : Shape := ⟨3, ![8, 1, 64]⟩
abbrev S8x64 : Shape := ⟨2, ![8, 64]⟩
abbrev S8x1x65 : Shape := ⟨3, ![8, 1, 65]⟩
abbrev S8x65 : Shape := ⟨2, ![8, 65]⟩
abbrev S8x257 : Shape := ⟨2, ![8, 257]⟩

abbrev nBuf : Table → Nat
  | .hbm => 14
  | .local .scVector .vmem => 3
  | _ => 0

abbrev bufTy : (tb : Table) → Fin (nBuf tb) → BufTy
  | .hbm, ⟨0, _⟩ => ⟨S8x32768, .i32⟩
  | .hbm, ⟨1, _⟩ => ⟨S1x1x1x4096, .f32⟩
  | .hbm, ⟨2, _⟩ => ⟨S262144, .i32⟩
  | .hbm, ⟨3, _⟩ => ⟨S32x80, .i32⟩
  | .hbm, ⟨4, _⟩ => ⟨S8x4x80, .i32⟩
  | .hbm, ⟨5, _⟩ => ⟨S8x1x64, .i32⟩
  | .hbm, ⟨6, _⟩ => ⟨S8x64, .i32⟩
  | .hbm, ⟨7, _⟩ => ⟨S8x1x64, .i32⟩
  | .hbm, ⟨8, _⟩ => ⟨S8x64, .i32⟩
  | .hbm, ⟨9, _⟩ => ⟨S8x1x64, .i32⟩
  | .hbm, ⟨10, _⟩ => ⟨S8x64, .i32⟩
  | .hbm, ⟨11, _⟩ => ⟨S8x1x65, .i32⟩
  | .hbm, ⟨12, _⟩ => ⟨S8x65, .i32⟩
  | .hbm, ⟨13, _⟩ => ⟨S8x257, .i32⟩
  | .local .scVector .vmem, ⟨0, _⟩ => ⟨S12288, .i32⟩
  | .local .scVector .vmem, ⟨1, _⟩ => ⟨S512, .i32⟩
  | .local .scVector .vmem, ⟨2, _⟩ => ⟨S80, .i32⟩
  | _, _ => ⟨S8x32768, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c32768_i32 : BitVec 32 := 32768#32
  let v33 : BitVec 32 := Scalar.muli v18 c32768_i32
  let c20480_i32 : BitVec 32 := 20480#32
  let c0_i32_10 : BitVec 32 := 0#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8192_i32 : BitVec 32 := 8192#32
  let v29 : BitVec 32 := Scalar.muli v28 c8192_i32
  let c2048_i32 : BitVec 32 := 2048#32
  let v30 : BitVec 32 := Scalar.subi v29 c2048_i32
  let v31 : BitVec 32 := Scalar.maxsi c0_i32_10 v30
  let v32 : BitVec 32 := Scalar.minsi c20480_i32 v31
  let v34 : BitVec 32 := Scalar.addi v33 v32
  v34
def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c32768_i32 : BitVec 32 := 32768#32
  let v33 : BitVec 32 := Scalar.muli v18 c32768_i32
  let c20480_i32 : BitVec 32 := 20480#32
  let c0_i32_10 : BitVec 32 := 0#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8192_i32 : BitVec 32 := 8192#32
  let v29 : BitVec 32 := Scalar.muli v28 c8192_i32
  let c2048_i32 : BitVec 32 := 2048#32
  let v30 : BitVec 32 := Scalar.subi v29 c2048_i32
  let v31 : BitVec 32 := Scalar.maxsi c0_i32_10 v30
  let v32 : BitVec 32 := Scalar.minsi c20480_i32 v31
  let v34 : BitVec 32 := Scalar.addi v33 v32
  let v35 : BitVec 32 := v34
  ![v35.toNat]
@[reducible] def k0_t1_loop : Scf.Loop 32 :=
  let c0_i32_19 : BitVec 32 := 0#32
  let c32_i32 : BitVec 32 := 32#32
  let v100 : BitVec 32 := Scalar.addi c0_i32_19 c32_i32
  let c1_i32_20 : BitVec 32 := 1#32
  ⟨c0_i32_19, v100, c1_i32_20⟩
def k0_off2 (i : grid0.Coords) (k0_t1 : Fin k0_t1_loop.trips) (c0_i32_71 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_13 : BitVec 32 := 0#32
  let v43 : BitVec 1 := Scalar.cmpi .eq v28 c0_i32_13
  let c0_i32_70 : BitVec 32 := 0#32
  let c0_i32_19 : BitVec 32 := 0#32
  let c1_i32_20 : BitVec 32 := 1#32
  let arg7 : BitVec 32 := Scf.iv c0_i32_19 c1_i32_20 k0_t1
  let c1_i32_69 : BitVec 32 := 1#32
  let v205 : BitVec 32 := Scalar.muli arg7 c1_i32_69
  let v206 : BitVec 32 := Scalar.addi c0_i32_70 v205
  let c8_i32 : BitVec 32 := 8#32
  let v207 : BitVec 32 := Scalar.muli v206 c8_i32
  let v208 : BitVec 32 := Scalar.addi v207 c0_i32_71
  let c128_i32_72 : BitVec 32 := 128#32
  let c0_i32_73 : BitVec 32 := 0#32
  let v209 : BitVec 1 := Scalar.cmpi .eq c128_i32_72 c0_i32_73
  let c1_i32_74 : BitVec 32 := 1#32
  let v210 : BitVec 32 := Scalar.select v209 c1_i32_74 c128_i32_72
  let v211 : BitVec 32 := Scalar.remsi v208 v210
  let c0_i32_76 : BitVec 32 := 0#32
  let v213 : BitVec 1 := Scalar.cmpi .slt v211 c0_i32_76
  let c0_i32_77 : BitVec 32 := 0#32
  let v214 : BitVec 1 := Scalar.cmpi .slt v210 c0_i32_77
  let v215 : BitVec 1 := Scalar.xori v213 v214
  let c0_i32_75 : BitVec 32 := 0#32
  let v212 : BitVec 1 := Scalar.cmpi .ne v211 c0_i32_75
  let v216 : BitVec 1 := Scalar.andi v215 v212
  let v217 : BitVec 32 := Scalar.addi v211 v210
  let v218 : BitVec 32 := Scalar.select v216 v217 v211
  let c16_i32_78 : BitVec 32 := 16#32
  let v219 : BitVec 32 := Scalar.muli v218 c16_i32_78
  let c8192_i32_17 : BitVec 32 := 8192#32
  let v97 : BitVec 32 := Scalar.muli v28 c8192_i32_17
  let c2048_i32_18 : BitVec 32 := 2048#32
  let v98 : BitVec 32 := Scalar.subi v97 c2048_i32_18
  let c20480_i32 : BitVec 32 := 20480#32
  let c0_i32_10 : BitVec 32 := 0#32
  let c8192_i32 : BitVec 32 := 8192#32
  let v29 : BitVec 32 := Scalar.muli v28 c8192_i32
  let c2048_i32 : BitVec 32 := 2048#32
  let v30 : BitVec 32 := Scalar.subi v29 c2048_i32
  let v31 : BitVec 32 := Scalar.maxsi c0_i32_10 v30
  let v32 : BitVec 32 := Scalar.minsi c20480_i32 v31
  let v99 : BitVec 32 := Scalar.subi v98 v32
  let c16_i32_79 : BitVec 32 := 16#32
  let v220 : BitVec 32 := Scalar.muli v208 c16_i32_79
  let v221 : BitVec 32 := Scalar.addi v99 v220
  let v222 : BitVec 32 := Scalar.select v43 v219 v221
  let v335 : Index := Scalar.indexCast v222
  ![v335.toNat]

def k0_chk1 (v359 : IVec S16 32) : Prop :=
  (∀ a x, ((![v359] : Fin 1 → IVec S16 32) a x).toNat < S512.size a)
theorem k0_idx1_inb : ∀ (v359 : IVec S16 32) (k0_hw1 : k0_chk1 v359), ∀ a x, ((![v359] : Fin 1 → IVec S16 32) a x).toNat < S512.size a := fun v359 k0_hw1 => k0_hw1

def k0_chk2 (v360 : IVec S16 32) : Prop :=
  (∀ a x, ((![v360] : Fin 1 → IVec S16 32) a x).toNat < S512.size a)
theorem k0_idx2_inb : ∀ (v360 : IVec S16 32) (k0_hw2 : k0_chk2 v360), ∀ a x, ((![v360] : Fin 1 → IVec S16 32) a x).toNat < S512.size a := fun v360 k0_hw2 => k0_hw2

def k0_chk3 (v361 : IVec S16 32) : Prop :=
  (∀ a x, ((![v361] : Fin 1 → IVec S16 32) a x).toNat < S512.size a)
theorem k0_idx3_inb : ∀ (v361 : IVec S16 32) (k0_hw3 : k0_chk3 v361), ∀ a x, ((![v361] : Fin 1 → IVec S16 32) a x).toNat < S512.size a := fun v361 k0_hw3 => k0_hw3

def k0_chk4 (v362 : IVec S16 32) : Prop :=
  (∀ a x, ((![v362] : Fin 1 → IVec S16 32) a x).toNat < S512.size a)
theorem k0_idx4_inb : ∀ (v362 : IVec S16 32) (k0_hw4 : k0_chk4 v362), ∀ a x, ((![v362] : Fin 1 → IVec S16 32) a x).toNat < S512.size a := fun v362 k0_hw4 => k0_hw4

def k0_chk5 (v363 : IVec S16 32) : Prop :=
  (∀ a x, ((![v363] : Fin 1 → IVec S16 32) a x).toNat < S512.size a)
theorem k0_idx5_inb : ∀ (v363 : IVec S16 32) (k0_hw5 : k0_chk5 v363), ∀ a x, ((![v363] : Fin 1 → IVec S16 32) a x).toNat < S512.size a := fun v363 k0_hw5 => k0_hw5

def k0_chk6 (v364 : IVec S16 32) : Prop :=
  (∀ a x, ((![v364] : Fin 1 → IVec S16 32) a x).toNat < S512.size a)
theorem k0_idx6_inb : ∀ (v364 : IVec S16 32) (k0_hw6 : k0_chk6 v364), ∀ a x, ((![v364] : Fin 1 → IVec S16 32) a x).toNat < S512.size a := fun v364 k0_hw6 => k0_hw6

def k0_chk7 (v365 : IVec S16 32) : Prop :=
  (∀ a x, ((![v365] : Fin 1 → IVec S16 32) a x).toNat < S512.size a)
theorem k0_idx7_inb : ∀ (v365 : IVec S16 32) (k0_hw7 : k0_chk7 v365), ∀ a x, ((![v365] : Fin 1 → IVec S16 32) a x).toNat < S512.size a := fun v365 k0_hw7 => k0_hw7

def k0_chk8 (v366 : IVec S16 32) : Prop :=
  (∀ a x, ((![v366] : Fin 1 → IVec S16 32) a x).toNat < S512.size a)
theorem k0_idx8_inb : ∀ (v366 : IVec S16 32) (k0_hw8 : k0_chk8 v366), ∀ a x, ((![v366] : Fin 1 → IVec S16 32) a x).toNat < S512.size a := fun v366 k0_hw8 => k0_hw8

def k0_chk9 (v105 : IVec S16 32) : Prop :=
  (∀ a x, ((![v105] : Fin 1 → IVec S16 32) a x).toNat < S512.size a)
theorem k0_idx9_inb : ∀ (v105 : IVec S16 32) (k0_hw9 : k0_chk9 v105), ∀ a x, ((![v105] : Fin 1 → IVec S16 32) a x).toNat < S512.size a := fun v105 k0_hw9 => k0_hw9

def k0_chk10 (v106 : IVec S16 32) : Prop :=
  (∀ a x, ((![v106] : Fin 1 → IVec S16 32) a x).toNat < S512.size a)
theorem k0_idx10_inb : ∀ (v106 : IVec S16 32) (k0_hw10 : k0_chk10 v106), ∀ a x, ((![v106] : Fin 1 → IVec S16 32) a x).toNat < S512.size a := fun v106 k0_hw10 => k0_hw10

def k0_chk11 (v203 : IVec S16 32) : Prop :=
  (∀ a x, ((![v203] : Fin 1 → IVec S16 32) a x).toNat < S80.size a)
theorem k0_idx11_inb : ∀ (v203 : IVec S16 32) (k0_hw11 : k0_chk11 v203), ∀ a x, ((![v203] : Fin 1 → IVec S16 32) a x).toNat < S80.size a := fun v203 k0_hw11 => k0_hw11
@[reducible] def k0_t2_loop : Scf.Loop 32 :=
  let c0_i32_66 : BitVec 32 := 0#32
  let c64_i32 : BitVec 32 := 64#32
  let v204 : BitVec 32 := Scalar.addi c0_i32_66 c64_i32
  let c1_i32_67 : BitVec 32 := 1#32
  ⟨c0_i32_66, v204, c1_i32_67⟩
def k0_off3 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32_71 : BitVec 32 := 64#32
  let v207 : BitVec 32 := Scalar.muli v28 c64_i32_71
  let c0_i32_70 : BitVec 32 := 0#32
  let c0_i32_66 : BitVec 32 := 0#32
  let c1_i32_67 : BitVec 32 := 1#32
  let arg7 : BitVec 32 := Scf.iv c0_i32_66 c1_i32_67 k0_t2
  let c1_i32_69 : BitVec 32 := 1#32
  let v205 : BitVec 32 := Scalar.muli arg7 c1_i32_69
  let v206 : BitVec 32 := Scalar.addi c0_i32_70 v205
  let v208 : BitVec 32 := Scalar.addi v207 v206
  let c16_i32_73 : BitVec 32 := 16#32
  let v210 : BitVec 1 := Scalar.cmpi .slt v208 c16_i32_73
  let c1920_i32 : BitVec 32 := 1920#32
  let c128_i32_78 : BitVec 32 := 128#32
  let v218 : BitVec 32 := Scalar.muli c128_i32_78 v208
  let v219 : BitVec 32 := Scalar.subi c1920_i32 v218
  let c128_i32_74 : BitVec 32 := 128#32
  let v212 : BitVec 32 := Scalar.muli v208 c128_i32_74
  let c2048_i32_75 : BitVec 32 := 2048#32
  let v213 : BitVec 32 := Scalar.subi v212 c2048_i32_75
  let c20480_i32 : BitVec 32 := 20480#32
  let c0_i32_10 : BitVec 32 := 0#32
  let c8192_i32 : BitVec 32 := 8192#32
  let v29 : BitVec 32 := Scalar.muli v28 c8192_i32
  let c2048_i32 : BitVec 32 := 2048#32
  let v30 : BitVec 32 := Scalar.subi v29 c2048_i32
  let v31 : BitVec 32 := Scalar.maxsi c0_i32_10 v30
  let v32 : BitVec 32 := Scalar.minsi c20480_i32 v31
  let v214 : BitVec 32 := Scalar.subi v213 v32
  let v220 : BitVec 32 := Scalar.select v210 v219 v214
  let v224 : Index := Scalar.indexCast v220
  ![v224.toNat]
def k0_off4 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32_71 : BitVec 32 := 64#32
  let v207 : BitVec 32 := Scalar.muli v28 c64_i32_71
  let c0_i32_70 : BitVec 32 := 0#32
  let c0_i32_66 : BitVec 32 := 0#32
  let c1_i32_67 : BitVec 32 := 1#32
  let arg7 : BitVec 32 := Scf.iv c0_i32_66 c1_i32_67 k0_t2
  let c1_i32_69 : BitVec 32 := 1#32
  let v205 : BitVec 32 := Scalar.muli arg7 c1_i32_69
  let v206 : BitVec 32 := Scalar.addi c0_i32_70 v205
  let v208 : BitVec 32 := Scalar.addi v207 v206
  let c16_i32_73 : BitVec 32 := 16#32
  let v210 : BitVec 1 := Scalar.cmpi .slt v208 c16_i32_73
  let c1920_i32 : BitVec 32 := 1920#32
  let c128_i32_78 : BitVec 32 := 128#32
  let v218 : BitVec 32 := Scalar.muli c128_i32_78 v208
  let v219 : BitVec 32 := Scalar.subi c1920_i32 v218
  let c128_i32_74 : BitVec 32 := 128#32
  let v212 : BitVec 32 := Scalar.muli v208 c128_i32_74
  let c2048_i32_75 : BitVec 32 := 2048#32
  let v213 : BitVec 32 := Scalar.subi v212 c2048_i32_75
  let c20480_i32 : BitVec 32 := 20480#32
  let c0_i32_10 : BitVec 32 := 0#32
  let c8192_i32 : BitVec 32 := 8192#32
  let v29 : BitVec 32 := Scalar.muli v28 c8192_i32
  let c2048_i32 : BitVec 32 := 2048#32
  let v30 : BitVec 32 := Scalar.subi v29 c2048_i32
  let v31 : BitVec 32 := Scalar.maxsi c0_i32_10 v30
  let v32 : BitVec 32 := Scalar.minsi c20480_i32 v31
  let v214 : BitVec 32 := Scalar.subi v213 v32
  let v220 : BitVec 32 := Scalar.select v210 v219 v214
  let c128_i32_80 : BitVec 32 := 128#32
  let v226 : BitVec 32 := Scalar.addi v220 c128_i32_80
  let v227 : Index := Scalar.indexCast v226
  ![v227.toNat]
def k0_off5 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32_71 : BitVec 32 := 64#32
  let v207 : BitVec 32 := Scalar.muli v28 c64_i32_71
  let c0_i32_70 : BitVec 32 := 0#32
  let c0_i32_66 : BitVec 32 := 0#32
  let c1_i32_67 : BitVec 32 := 1#32
  let arg7 : BitVec 32 := Scf.iv c0_i32_66 c1_i32_67 k0_t2
  let c1_i32_69 : BitVec 32 := 1#32
  let v205 : BitVec 32 := Scalar.muli arg7 c1_i32_69
  let v206 : BitVec 32 := Scalar.addi c0_i32_70 v205
  let v208 : BitVec 32 := Scalar.addi v207 v206
  let c32_i32_72 : BitVec 32 := 32#32
  let v209 : BitVec 32 := Scalar.addi v208 c32_i32_72
  let c272_i32 : BitVec 32 := 272#32
  let v211 : BitVec 1 := Scalar.cmpi .sge v209 c272_i32
  let c46976_i32 : BitVec 32 := 46976#32
  let c128_i32_79 : BitVec 32 := 128#32
  let v221 : BitVec 32 := Scalar.muli c128_i32_79 v209
  let v222 : BitVec 32 := Scalar.subi c46976_i32 v221
  let c128_i32_76 : BitVec 32 := 128#32
  let v215 : BitVec 32 := Scalar.muli v209 c128_i32_76
  let c2048_i32_77 : BitVec 32 := 2048#32
  let v216 : BitVec 32 := Scalar.subi v215 c2048_i32_77
  let c20480_i32 : BitVec 32 := 20480#32
  let c0_i32_10 : BitVec 32 := 0#32
  let c8192_i32 : BitVec 32 := 8192#32
  let v29 : BitVec 32 := Scalar.muli v28 c8192_i32
  let c2048_i32 : BitVec 32 := 2048#32
  let v30 : BitVec 32 := Scalar.subi v29 c2048_i32
  let v31 : BitVec 32 := Scalar.maxsi c0_i32_10 v30
  let v32 : BitVec 32 := Scalar.minsi c20480_i32 v31
  let v217 : BitVec 32 := Scalar.subi v216 v32
  let v223 : BitVec 32 := Scalar.select v211 v222 v217
  let c16_i32_81 : BitVec 32 := 16#32
  let v229 : BitVec 32 := Scalar.subi v223 c16_i32_81
  let v230 : Index := Scalar.indexCast v229
  ![v230.toNat]
def k0_off6 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32_71 : BitVec 32 := 64#32
  let v207 : BitVec 32 := Scalar.muli v28 c64_i32_71
  let c0_i32_70 : BitVec 32 := 0#32
  let c0_i32_66 : BitVec 32 := 0#32
  let c1_i32_67 : BitVec 32 := 1#32
  let arg7 : BitVec 32 := Scf.iv c0_i32_66 c1_i32_67 k0_t2
  let c1_i32_69 : BitVec 32 := 1#32
  let v205 : BitVec 32 := Scalar.muli arg7 c1_i32_69
  let v206 : BitVec 32 := Scalar.addi c0_i32_70 v205
  let v208 : BitVec 32 := Scalar.addi v207 v206
  let c32_i32_72 : BitVec 32 := 32#32
  let v209 : BitVec 32 := Scalar.addi v208 c32_i32_72
  let c272_i32 : BitVec 32 := 272#32
  let v211 : BitVec 1 := Scalar.cmpi .sge v209 c272_i32
  let c46976_i32 : BitVec 32 := 46976#32
  let c128_i32_79 : BitVec 32 := 128#32
  let v221 : BitVec 32 := Scalar.muli c128_i32_79 v209
  let v222 : BitVec 32 := Scalar.subi c46976_i32 v221
  let c128_i32_76 : BitVec 32 := 128#32
  let v215 : BitVec 32 := Scalar.muli v209 c128_i32_76
  let c2048_i32_77 : BitVec 32 := 2048#32
  let v216 : BitVec 32 := Scalar.subi v215 c2048_i32_77
  let c20480_i32 : BitVec 32 := 20480#32
  let c0_i32_10 : BitVec 32 := 0#32
  let c8192_i32 : BitVec 32 := 8192#32
  let v29 : BitVec 32 := Scalar.muli v28 c8192_i32
  let c2048_i32 : BitVec 32 := 2048#32
  let v30 : BitVec 32 := Scalar.subi v29 c2048_i32
  let v31 : BitVec 32 := Scalar.maxsi c0_i32_10 v30
  let v32 : BitVec 32 := Scalar.minsi c20480_i32 v31
  let v217 : BitVec 32 := Scalar.subi v216 v32
  let v223 : BitVec 32 := Scalar.select v211 v222 v217
  let c128_i32_82 : BitVec 32 := 128#32
  let v232 : BitVec 32 := Scalar.addi v223 c128_i32_82
  let c16_i32_83 : BitVec 32 := 16#32
  let v233 : BitVec 32 := Scalar.subi v232 c16_i32_83
  let v234 : Index := Scalar.indexCast v233
  ![v234.toNat]

def k0_chk12 (v240 : IVec S16 32) : Prop :=
  (∀ a x, ((![v240] : Fin 1 → IVec S16 32) a x).toNat < S512.size a)
theorem k0_idx12_inb : ∀ (v240 : IVec S16 32) (k0_hw12 : k0_chk12 v240), ∀ a x, ((![v240] : Fin 1 → IVec S16 32) a x).toNat < S512.size a := fun v240 k0_hw12 => k0_hw12

def k0_chk13 (v241 : IVec S16 32) : Prop :=
  (∀ a x, ((![v241] : Fin 1 → IVec S16 32) a x).toNat < S512.size a)
theorem k0_idx13_inb : ∀ (v241 : IVec S16 32) (k0_hw13 : k0_chk13 v241), ∀ a x, ((![v241] : Fin 1 → IVec S16 32) a x).toNat < S512.size a := fun v241 k0_hw13 => k0_hw13

def k0_chk14 (v242 : IVec S16 32) : Prop :=
  (∀ a x, ((![v242] : Fin 1 → IVec S16 32) a x).toNat < S512.size a)
theorem k0_idx14_inb : ∀ (v242 : IVec S16 32) (k0_hw14 : k0_chk14 v242), ∀ a x, ((![v242] : Fin 1 → IVec S16 32) a x).toNat < S512.size a := fun v242 k0_hw14 => k0_hw14

def k0_chk15 (v243 : IVec S16 32) : Prop :=
  (∀ a x, ((![v243] : Fin 1 → IVec S16 32) a x).toNat < S512.size a)
theorem k0_idx15_inb : ∀ (v243 : IVec S16 32) (k0_hw15 : k0_chk15 v243), ∀ a x, ((![v243] : Fin 1 → IVec S16 32) a x).toNat < S512.size a := fun v243 k0_hw15 => k0_hw15
def k0_off7 (i : grid0.Coords) (k0_t2 : Fin k0_t2_loop.trips) (c0_i32_84 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32_71 : BitVec 32 := 64#32
  let v207 : BitVec 32 := Scalar.muli v28 c64_i32_71
  let c0_i32_70 : BitVec 32 := 0#32
  let c0_i32_66 : BitVec 32 := 0#32
  let c1_i32_67 : BitVec 32 := 1#32
  let arg7 : BitVec 32 := Scf.iv c0_i32_66 c1_i32_67 k0_t2
  let c1_i32_69 : BitVec 32 := 1#32
  let v205 : BitVec 32 := Scalar.muli arg7 c1_i32_69
  let v206 : BitVec 32 := Scalar.addi c0_i32_70 v205
  let v208 : BitVec 32 := Scalar.addi v207 v206
  let c16_i32_73 : BitVec 32 := 16#32
  let v210 : BitVec 1 := Scalar.cmpi .slt v208 c16_i32_73
  let c1920_i32 : BitVec 32 := 1920#32
  let c128_i32_78 : BitVec 32 := 128#32
  let v218 : BitVec 32 := Scalar.muli c128_i32_78 v208
  let v219 : BitVec 32 := Scalar.subi c1920_i32 v218
  let c128_i32_74 : BitVec 32 := 128#32
  let v212 : BitVec 32 := Scalar.muli v208 c128_i32_74
  let c2048_i32_75 : BitVec 32 := 2048#32
  let v213 : BitVec 32 := Scalar.subi v212 c2048_i32_75
  let c20480_i32 : BitVec 32 := 20480#32
  let c0_i32_10 : BitVec 32 := 0#32
  let c8192_i32 : BitVec 32 := 8192#32
  let v29 : BitVec 32 := Scalar.muli v28 c8192_i32
  let c2048_i32 : BitVec 32 := 2048#32
  let v30 : BitVec 32 := Scalar.subi v29 c2048_i32
  let v31 : BitVec 32 := Scalar.maxsi c0_i32_10 v30
  let v32 : BitVec 32 := Scalar.minsi c20480_i32 v31
  let v214 : BitVec 32 := Scalar.subi v213 v32
  let v220 : BitVec 32 := Scalar.select v210 v219 v214
  let v244 : BitVec 32 := Scalar.addi v220 c0_i32_84
  let v260 : Index := Scalar.indexCast v244
  ![v260.toNat]
def k0_off8 (i : grid0.Coords) (k0_t2 : Fin k0_t2_loop.trips) (c0_i32_85 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32_71 : BitVec 32 := 64#32
  let v207 : BitVec 32 := Scalar.muli v28 c64_i32_71
  let c0_i32_70 : BitVec 32 := 0#32
  let c0_i32_66 : BitVec 32 := 0#32
  let c1_i32_67 : BitVec 32 := 1#32
  let arg7 : BitVec 32 := Scf.iv c0_i32_66 c1_i32_67 k0_t2
  let c1_i32_69 : BitVec 32 := 1#32
  let v205 : BitVec 32 := Scalar.muli arg7 c1_i32_69
  let v206 : BitVec 32 := Scalar.addi c0_i32_70 v205
  let v208 : BitVec 32 := Scalar.addi v207 v206
  let c32_i32_72 : BitVec 32 := 32#32
  let v209 : BitVec 32 := Scalar.addi v208 c32_i32_72
  let c272_i32 : BitVec 32 := 272#32
  let v211 : BitVec 1 := Scalar.cmpi .sge v209 c272_i32
  let c46976_i32 : BitVec 32 := 46976#32
  let c128_i32_79 : BitVec 32 := 128#32
  let v221 : BitVec 32 := Scalar.muli c128_i32_79 v209
  let v222 : BitVec 32 := Scalar.subi c46976_i32 v221
  let c128_i32_76 : BitVec 32 := 128#32
  let v215 : BitVec 32 := Scalar.muli v209 c128_i32_76
  let c2048_i32_77 : BitVec 32 := 2048#32
  let v216 : BitVec 32 := Scalar.subi v215 c2048_i32_77
  let c20480_i32 : BitVec 32 := 20480#32
  let c0_i32_10 : BitVec 32 := 0#32
  let c8192_i32 : BitVec 32 := 8192#32
  let v29 : BitVec 32 := Scalar.muli v28 c8192_i32
  let c2048_i32 : BitVec 32 := 2048#32
  let v30 : BitVec 32 := Scalar.subi v29 c2048_i32
  let v31 : BitVec 32 := Scalar.maxsi c0_i32_10 v30
  let v32 : BitVec 32 := Scalar.minsi c20480_i32 v31
  let v217 : BitVec 32 := Scalar.subi v216 v32
  let v223 : BitVec 32 := Scalar.select v211 v222 v217
  let v245 : BitVec 32 := Scalar.addi v223 c0_i32_85
  let v262 : Index := Scalar.indexCast v245
  ![v262.toNat]

def k0_chk16 (v308 : IVec S16 32) : Prop :=
  (∀ a x, ((![v308] : Fin 1 → IVec S16 32) a x).toNat < S512.size a)
theorem k0_idx16_inb : ∀ (v308 : IVec S16 32) (k0_hw16 : k0_chk16 v308), ∀ a x, ((![v308] : Fin 1 → IVec S16 32) a x).toNat < S512.size a := fun v308 k0_hw16 => k0_hw16

def k0_chk17 (v311 : IVec S16 32) : Prop :=
  (∀ a x, ((![v311] : Fin 1 → IVec S16 32) a x).toNat < S512.size a)
theorem k0_idx17_inb : ∀ (v311 : IVec S16 32) (k0_hw17 : k0_chk17 v311), ∀ a x, ((![v311] : Fin 1 → IVec S16 32) a x).toNat < S512.size a := fun v311 k0_hw17 => k0_hw17

def k0_chk18 (v312 : IVec S16 32) : Prop :=
  (∀ a x, ((![v312] : Fin 1 → IVec S16 32) a x).toNat < S512.size a)
theorem k0_idx18_inb : ∀ (v312 : IVec S16 32) (k0_hw18 : k0_chk18 v312), ∀ a x, ((![v312] : Fin 1 → IVec S16 32) a x).toNat < S512.size a := fun v312 k0_hw18 => k0_hw18

def k0_chk19 (v315 : IVec S16 32) : Prop :=
  (∀ a x, ((![v315] : Fin 1 → IVec S16 32) a x).toNat < S512.size a)
theorem k0_idx19_inb : ∀ (v315 : IVec S16 32) (k0_hw19 : k0_chk19 v315), ∀ a x, ((![v315] : Fin 1 → IVec S16 32) a x).toNat < S512.size a := fun v315 k0_hw19 => k0_hw19

def k0_chk20 (v316 : IVec S16 32) : Prop :=
  (∀ a x, ((![v316] : Fin 1 → IVec S16 32) a x).toNat < S512.size a)
theorem k0_idx20_inb : ∀ (v316 : IVec S16 32) (k0_hw20 : k0_chk20 v316), ∀ a x, ((![v316] : Fin 1 → IVec S16 32) a x).toNat < S512.size a := fun v316 k0_hw20 => k0_hw20

def k0_chk21 (v319 : IVec S16 32) : Prop :=
  (∀ a x, ((![v319] : Fin 1 → IVec S16 32) a x).toNat < S512.size a)
theorem k0_idx21_inb : ∀ (v319 : IVec S16 32) (k0_hw21 : k0_chk21 v319), ∀ a x, ((![v319] : Fin 1 → IVec S16 32) a x).toNat < S512.size a := fun v319 k0_hw21 => k0_hw21

def k0_chk22 (v320 : IVec S16 32) : Prop :=
  (∀ a x, ((![v320] : Fin 1 → IVec S16 32) a x).toNat < S512.size a)
theorem k0_idx22_inb : ∀ (v320 : IVec S16 32) (k0_hw22 : k0_chk22 v320), ∀ a x, ((![v320] : Fin 1 → IVec S16 32) a x).toNat < S512.size a := fun v320 k0_hw22 => k0_hw22

def k0_chk23 (v323 : IVec S16 32) : Prop :=
  (∀ a x, ((![v323] : Fin 1 → IVec S16 32) a x).toNat < S512.size a)
theorem k0_idx23_inb : ∀ (v323 : IVec S16 32) (k0_hw23 : k0_chk23 v323), ∀ a x, ((![v323] : Fin 1 → IVec S16 32) a x).toNat < S512.size a := fun v323 k0_hw23 => k0_hw23

def k0_chk24 (v324 : IVec S16 32) : Prop :=
  (∀ a x, ((![v324] : Fin 1 → IVec S16 32) a x).toNat < S512.size a)
theorem k0_idx24_inb : ∀ (v324 : IVec S16 32) (k0_hw24 : k0_chk24 v324), ∀ a x, ((![v324] : Fin 1 → IVec S16 32) a x).toNat < S512.size a := fun v324 k0_hw24 => k0_hw24

def k0_chk25 (v327 : IVec S16 32) : Prop :=
  (∀ a x, ((![v327] : Fin 1 → IVec S16 32) a x).toNat < S512.size a)
theorem k0_idx25_inb : ∀ (v327 : IVec S16 32) (k0_hw25 : k0_chk25 v327), ∀ a x, ((![v327] : Fin 1 → IVec S16 32) a x).toNat < S512.size a := fun v327 k0_hw25 => k0_hw25

def k0_chk26 (v328 : IVec S16 32) : Prop :=
  (∀ a x, ((![v328] : Fin 1 → IVec S16 32) a x).toNat < S512.size a)
theorem k0_idx26_inb : ∀ (v328 : IVec S16 32) (k0_hw26 : k0_chk26 v328), ∀ a x, ((![v328] : Fin 1 → IVec S16 32) a x).toNat < S512.size a := fun v328 k0_hw26 => k0_hw26

def k0_chk27 (v331 : IVec S16 32) : Prop :=
  (∀ a x, ((![v331] : Fin 1 → IVec S16 32) a x).toNat < S512.size a)
theorem k0_idx27_inb : ∀ (v331 : IVec S16 32) (k0_hw27 : k0_chk27 v331), ∀ a x, ((![v331] : Fin 1 → IVec S16 32) a x).toNat < S512.size a := fun v331 k0_hw27 => k0_hw27

def k0_chk28 (v332 : IVec S16 32) : Prop :=
  (∀ a x, ((![v332] : Fin 1 → IVec S16 32) a x).toNat < S512.size a)
theorem k0_idx28_inb : ∀ (v332 : IVec S16 32) (k0_hw28 : k0_chk28 v332), ∀ a x, ((![v332] : Fin 1 → IVec S16 32) a x).toNat < S512.size a := fun v332 k0_hw28 => k0_hw28

def k0_chk29 (v335 : IVec S16 32) : Prop :=
  (∀ a x, ((![v335] : Fin 1 → IVec S16 32) a x).toNat < S512.size a)
theorem k0_idx29_inb : ∀ (v335 : IVec S16 32) (k0_hw29 : k0_chk29 v335), ∀ a x, ((![v335] : Fin 1 → IVec S16 32) a x).toNat < S512.size a := fun v335 k0_hw29 => k0_hw29

def k0_chk30 (v336 : IVec S16 32) : Prop :=
  (∀ a x, ((![v336] : Fin 1 → IVec S16 32) a x).toNat < S512.size a)
theorem k0_idx30_inb : ∀ (v336 : IVec S16 32) (k0_hw30 : k0_chk30 v336), ∀ a x, ((![v336] : Fin 1 → IVec S16 32) a x).toNat < S512.size a := fun v336 k0_hw30 => k0_hw30

def k0_chk31 (v339 : IVec S16 32) : Prop :=
  (∀ a x, ((![v339] : Fin 1 → IVec S16 32) a x).toNat < S512.size a)
theorem k0_idx31_inb : ∀ (v339 : IVec S16 32) (k0_hw31 : k0_chk31 v339), ∀ a x, ((![v339] : Fin 1 → IVec S16 32) a x).toNat < S512.size a := fun v339 k0_hw31 => k0_hw31

def k0_chk32 (v437 : IVec S16 32) : Prop :=
  (∀ a x, ((![v437] : Fin 1 → IVec S16 32) a x).toNat < S80.size a)
theorem k0_idx32_inb : ∀ (v437 : IVec S16 32) (k0_hw32 : k0_chk32 v437), ∀ a x, ((![v437] : Fin 1 → IVec S16 32) a x).toNat < S80.size a := fun v437 k0_hw32 => k0_hw32
def k0_off9 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_69_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x32768 : Shape := ⟨2, ![8, 32768]⟩
abbrev S1x1x1x4096 : Shape := ⟨4, ![1, 1, 1, 4096]⟩
abbrev S_ : Shape := ⟨0, ![]⟩
abbrev S8x1 : Shape := ⟨2, ![8, 1]⟩
abbrev S8x2048 : Shape := ⟨2, ![8, 2048]⟩
abbrev S8x34816 : Shape := ⟨2, ![8, 34816]⟩
abbrev S8x36864 : Shape := ⟨2, ![8, 36864]⟩
abbrev S257 : Shape := ⟨1, ![257]⟩
abbrev S257x1 : Shape := ⟨2, ![257, 1]⟩
abbrev S4096 : Shape := ⟨1, ![4096]⟩
abbrev S1x4096 : Shape := ⟨2, ![1, 4096]⟩
abbrev S257x4096 : Shape := ⟨2, ![257, 4096]⟩
abbrev S257x4096x1 : Shape := ⟨3, ![257, 4096, 1]⟩
abbrev S8x257x4096 : Shape := ⟨3, ![8, 257, 4096]⟩
abbrev S8x1x257x4096 : Shape := ⟨4, ![8, 1, 257, 4096]⟩
abbrev S128 : Shape := ⟨1, ![128]⟩
abbrev S1x128x1x1 : Shape := ⟨4, ![1, 128, 1, 1]⟩
abbrev S8x128x257x4096 : Shape := ⟨4, ![8, 128, 257, 4096]⟩
abbrev S8x128x257 : Shape := ⟨3, ![8, 128, 257]⟩
abbrev S8x257 : Shape := ⟨2, ![8, 257]⟩

abbrev nBuf : Space → Nat
  | .hbm => 46
  | .vmem => 0
  | .smem => 0
  | _ => 0

abbrev bufTy : (tb : Table) → Fin (tcTables nBuf tb) → BufTy
  | .hbm, ⟨0, _⟩ => ⟨S8x32768, .i32⟩
  | .hbm, ⟨1, _⟩ => ⟨S1x1x1x4096, .f32⟩
  | .hbm, ⟨2, _⟩ => ⟨S8x32768, .f32⟩
  | .hbm, ⟨3, _⟩ => ⟨S_, .i32⟩
  | .hbm, ⟨4, _⟩ => ⟨S8x1, .f32⟩
  | .hbm, ⟨5, _⟩ => ⟨S8x2048, .f32⟩
  | .hbm, ⟨6, _⟩ => ⟨S8x2048, .f32⟩
  | .hbm, ⟨7, _⟩ => ⟨S8x34816, .f32⟩
  | .hbm, ⟨8, _⟩ => ⟨S8x1, .f32⟩
  | .hbm, ⟨9, _⟩ => ⟨S8x2048, .f32⟩
  | .hbm, ⟨10, _⟩ => ⟨S8x2048, .f32⟩
  | .hbm, ⟨11, _⟩ => ⟨S8x36864, .f32⟩
  | .hbm, ⟨12, _⟩ => ⟨S8x36864, .i32⟩
  | .hbm, ⟨13, _⟩ => ⟨S257, .i32⟩
  | .hbm, ⟨14, _⟩ => ⟨S257x1, .i32⟩
  | .hbm, ⟨15, _⟩ => ⟨S_, .i32⟩
  | .hbm, ⟨16, _⟩ => ⟨S257x1, .i32⟩
  | .hbm, ⟨17, _⟩ => ⟨S257x1, .i32⟩
  | .hbm, ⟨18, _⟩ => ⟨S4096, .i32⟩
  | .hbm, ⟨19, _⟩ => ⟨S1x4096, .i32⟩
  | .hbm, ⟨20, _⟩ => ⟨S257x4096, .i32⟩
  | .hbm, ⟨21, _⟩ => ⟨S257x4096, .i32⟩
  | .hbm, ⟨22, _⟩ => ⟨S257x4096, .i32⟩
  | .hbm, ⟨23, _⟩ => ⟨S_, .i32⟩
  | .hbm, ⟨24, _⟩ => ⟨S257x4096, .i32⟩
  | .hbm, ⟨25, _⟩ => ⟨S257x4096, .i1⟩
  | .hbm, ⟨26, _⟩ => ⟨S_, .i32⟩
  | .hbm, ⟨27, _⟩ => ⟨S257x4096, .i32⟩
  | .hbm, ⟨28, _⟩ => ⟨S257x4096, .i32⟩
  | .hbm, ⟨29, _⟩ => ⟨S257x4096, .i32⟩
  | .hbm, ⟨30, _⟩ => ⟨S257x4096x1, .i32⟩
  | .hbm, ⟨31, _⟩ => ⟨S8x257x4096, .i32⟩
  | .hbm, ⟨32, _⟩ => ⟨S8x1x257x4096, .i32⟩
  | .hbm, ⟨33, _⟩ => ⟨S128, .i32⟩
  | .hbm, ⟨34, _⟩ => ⟨S1x128x1x1, .i32⟩
  | .hbm, ⟨35, _⟩ => ⟨S8x128x257x4096, .i32⟩
  | .hbm, ⟨36, _⟩ => ⟨S8x128x257x4096, .i32⟩
  | .hbm, ⟨37, _⟩ => ⟨S8x128x257x4096, .i1⟩
  | .hbm, ⟨38, _⟩ => ⟨S8x128x257x4096, .f32⟩
  | .hbm, ⟨39, _⟩ => ⟨S4096, .f32⟩
  | .hbm, ⟨40, _⟩ => ⟨S8x128x257, .f32⟩
  | .hbm, ⟨41, _⟩ => ⟨S8x128x257, .i32⟩
  | .hbm, ⟨42, _⟩ => ⟨S_, .f32⟩
  | .hbm, ⟨43, _⟩ => ⟨S_, .i32⟩
  | .hbm, ⟨44, _⟩ => ⟨S8x257, .f32⟩
  | .hbm, ⟨45, _⟩ => ⟨S8x257, .i32⟩
  | _, _ => ⟨S8x32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call1_v0 : Ref sig .tc := ⟨.hbm, 41, rfl⟩
abbrev main_call1_cst : Ref sig .tc := ⟨.hbm, 42, rfl⟩
abbrev main_call1_c : Ref sig .tc := ⟨.hbm, 43, rfl⟩
abbrev main_call1_v1_0 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Proof.Count.lean ====
module

public import Idealize.ShloMosaic.PureOps
public import Mathlib.Data.BitVec
public import Mathlib.Algebra.BigOperators.Fin
public import Mathlib.Algebra.BigOperators.Intervals
public import Mathlib.Algebra.BigOperators.Ring.Finset
public import Mathlib.Data.Fintype.BigOperators
public import Mathlib.Tactic.Abel
public import Mathlib.Tactic.Ring
public import Mathlib.Tactic.IntervalCases

/-!
# Counting with indexed adds

What an indexed add into a table of four copies of 128 counters does to the sum of the four copies, when
the amounts added are the counts of `scanCount` or one lane's constant.
-/

@[expose] public section

noncomputable section
namespace Cert.Proof.Count
open Idealize.ShloMosaic

abbrev V16 : Shape := ⟨1, ![16]⟩
abbrev V512 : Shape := ⟨1, ![512]⟩

/-- Lane `k` of a vector of sixteen. -/
abbrev ln (k : Fin 16) : V16.Idx := Shape.ofLane (d := ![16]) k

theorem ln_zero (k : Fin 16) : (ln k) 0 = k := rfl
/-- The lane an index is. -/
def lx (i : V16.Idx) : Fin 16 := i 0
theorem lx_ln (k : Fin 16) : lx (ln k) = k := rfl
theorem ln_lx (i : V16.Idx) : ln (lx i) = i := by
  funext a; obtain rfl : a = 0 := Fin.eq_zero a; rfl

/-- Cell `n` of the table. -/
def cell (n : Nat) : V512.Idx := fun a => ⟨n % 512, by rw [Fin.eq_zero a]; exact Nat.mod_lt _ (by decide)⟩

theorem cell_val (n : Nat) (h : n < 512) : ((cell n) 0).val = n := Nat.mod_eq_of_lt h

/-- The sum of the four copies of counter `c`. -/
def tot (h : V512.Idx → BitVec 32) (c : Nat) : BitVec 32 :=
  (h (cell c) + h (cell (128 + c))) + (h (cell (256 + c)) + h (cell (384 + c)))

/-- How many lanes of `v` hold `c`. -/
def occ (v : V16.Idx → BitVec 32) (c : Nat) : BitVec 32 :=
  ∑ k : Fin 16, if (v (ln k)).toNat = c then 1 else 0

/-- The amounts `v` of the lanes `mask` sets whose index is `c`, added up. -/
def gain (idx v : V16.Idx → BitVec 32) (mask : V16.Idx → BitVec 1) (c : Nat) : BitVec 32 :=
  ∑ k : Fin 16, if mask (ln k) = 1 ∧ (idx (ln k)).toNat = c then v (ln k) else 0

variable {F : FTy → Type} [FloatOps F]

theorem storeIdx_add_apply (f : V512.Idx → BitVec 32) (idx v : V16.Idx → BitVec 32) (mask : V16.Idx → BitVec 1)
    (h : ∀ a x, ((![idx] : Fin 1 → IVec V16 32) a x).toNat < V512.size a) (j : V512.Idx) :
    (storeIdx (F := F) (s := V512) (e := .i32) (d := ![16]) f (![idx] : Fin 1 → IVec V16 32) v mask true h : V512.Idx → BitVec 32) j
      = f j + gain idx v mask (j 0).val := by
  have key : ∀ (l : List (Fin 16)) (g : V512.Idx → BitVec 32),
      (l.foldl (fun (g : V512.Idx → BitVec 32) (k : Fin 16) =>
        if mask (ln k) = 1 then
          fun j => if (∀ a, (j a).val = (idxAt (s := V512) (![idx] : Fin 1 → IVec V16 32) h (ln k) a).val) then g (idxAt (s := V512) (![idx] : Fin 1 → IVec V16 32) h (ln k)) + v (ln k) else g j
        else g) g) j
      = g j + (l.map fun k => if mask (ln k) = 1 ∧ (idx (ln k)).toNat = (j 0).val then v (ln k) else 0).sum := by
    intro l
    induction l with
    | nil => intro g; simp
    | cons k l ih =>
      intro g
      rw [List.foldl_cons, ih, List.map_cons, List.sum_cons, ← add_assoc]
      congr 1
      by_cases hm : mask (ln k) = 1
      · simp only [hm, if_true, true_and]
        by_cases hj : (idx (ln k)).toNat = (j 0).val
        · have hj' : ∀ a, (j a).val = (idxAt (s := V512) (![idx] : Fin 1 → IVec V16 32) h (ln k) a).val := by
            intro a; obtain rfl : a = 0 := Fin.eq_zero a; exact hj.symm
          have e : idxAt (s := V512) (![idx] : Fin 1 → IVec V16 32) h (ln k) = j := funext fun a => Fin.ext (hj' a).symm
          rw [if_pos hj', if_pos hj, e]
        · rw [if_neg (fun hh => hj (hh 0).symm), if_neg hj, add_zero]
      · simp only [hm, if_false, false_and, add_zero]
  refine (key (List.finRange 16) f).trans ?_
  rw [gain, ← List.sum_ofFn, List.ofFn_eq_map]

/-- An indexed add at labels below 128 moved into copy `p` adds each label's amounts to that label's sum. -/
theorem tot_storeIdx (f : V512.Idx → BitVec 32) (lab off idx v : V16.Idx → BitVec 32) (mask : V16.Idx → BitVec 1)
    (h : ∀ a x, ((![idx] : Fin 1 → IVec V16 32) a x).toNat < V512.size a) (p : Nat) (hp : p < 4)
    (hidx : ∀ x, idx x = lab x + off x) (hoff : ∀ x, (off x).toNat = 128 * p) (hlab : ∀ x, (lab x).toNat < 128) (c : Nat) (hc : c < 128) :
    tot (storeIdx (F := F) (s := V512) (e := .i32) (d := ![16]) f (![idx] : Fin 1 → IVec V16 32) v mask true h) c
      = tot f c + gain lab v mask c := by
  have hix : ∀ x, (idx x).toNat = (lab x).toNat + 128 * p := by
    intro x
    have := hlab x; have := hoff x
    rw [hidx, BitVec.toNat_add]; omega
  have hg : ∀ p' < 4, gain idx v mask (128 * p' + c) = if p' = p then gain lab v mask c else 0 := by
    intro p' hp'
    split_ifs with e
    · subst e
      refine Finset.sum_congr rfl fun k _ => ?_
      have := hix (ln k)
      simp only [this, show ((lab (ln k)).toNat + 128 * p' = 128 * p' + c) ↔ (lab (ln k)).toNat = c by omega]
    · refine Finset.sum_eq_zero fun k _ => if_neg fun hh => ?_
      have := hix (ln k); have := hlab (ln k); have := hh.2
      omega
  unfold tot
  rw [storeIdx_add_apply, storeIdx_add_apply, storeIdx_add_apply, storeIdx_add_apply,
    cell_val c (by omega), cell_val (128 + c) (by omega), cell_val (256 + c) (by omega), cell_val (384 + c) (by omega)]
  have h0 := hg 0 (by decide); have h1 := hg 1 (by decide); have h2 := hg 2 (by decide); have h3 := hg 3 (by decide)
  simp only [Nat.mul_zero, Nat.zero_add, Nat.mul_one, Nat.reduceMul] at h0 h1 h2 h3
  rw [h0, h1, h2, h3]
  interval_cases p <;> simp <;> abel

theorem rowMajor_ln (k : Fin 16) : (V16.rowMajor (ln k)).val = k.val := by
  revert k; decide

/-- The counts at the last occurrences, added up per label, are the numbers of lanes holding each. -/
theorem gain_scanCount (lab : V16.Idx → BitVec 32) (m0 : V16.Idx → BitVec 1) (hm0 : ∀ x, m0 x = 1) (c : Nat) :
    gain lab (scanCount (s := V16) m0 lab).2 (scanCount (s := V16) m0 lab).1 c = occ lab c := by
  classical
  unfold gain occ
  by_cases hex : ∃ k : Fin 16, (lab (ln k)).toNat = c
  · -- the last lane holding `c`
    obtain ⟨k0, hk0, hmax⟩ := (Finset.univ.filter fun k : Fin 16 => (lab (ln k)).toNat = c).exists_max_image id
      (by obtain ⟨k, hk⟩ := hex; exact ⟨k, by simpa using hk⟩)
    simp only [Finset.mem_filter, Finset.mem_univ, true_and, id] at hk0 hmax
    have hiff : ∀ k : Fin 16, ((scanCount (s := V16) m0 lab).1 (ln k) = 1 ∧ (lab (ln k)).toNat = c) ↔ k = k0 := by
      intro k
      constructor
      · rintro ⟨h1, h2⟩
        have h1' : ∀ j : V16.Idx, (V16.rowMajor (ln k)).val < (V16.rowMajor j).val → ¬ (m0 j = 1 ∧ lab j = lab (ln k)) := by
          by_contra hn
          simp only [scanCount, hm0, true_and] at h1
          rw [if_neg (by simpa [hm0] using hn)] at h1
          exact absurd h1 (by decide)
        by_contra hne
        have hlt : k < k0 := lt_of_le_of_ne (hmax k h2) hne
        exact h1' (ln k0) (by rw [rowMajor_ln, rowMajor_ln]; exact hlt) ⟨hm0 _, BitVec.eq_of_toNat_eq (hk0.trans h2.symm)⟩
      · rintro rfl
        refine ⟨?_, hk0⟩
        simp only [scanCount]
        rw [if_pos]
        refine ⟨hm0 _, fun j hj hh => ?_⟩
        rw [← ln_lx j, rowMajor_ln, rowMajor_ln] at hj
        have := hmax (lx j) (by rw [ln_lx, hh.2, hk0])
        exact absurd hj (not_lt.2 this)
    simp only [hiff, Finset.sum_ite_eq', Finset.mem_univ, if_true]
    rw [Finset.sum_boole]
    simp only [scanCount, hm0, if_true, true_and]
    rw [show ∀ n : Nat, BitVec.ofNat 32 n = (n : BitVec 32) from fun n => rfl]
    congr 1
    refine Finset.card_bij' (fun j _ => lx j) (fun k _ => ln k) ?_ ?_ (fun j _ => ln_lx j) (fun k _ => lx_ln k)
    · intro j hj
      simp only [Finset.mem_filter, Finset.mem_univ, true_and] at hj ⊢
      rw [ln_lx, hj.2, hk0]
    · intro k hk
      simp only [Finset.mem_filter, Finset.mem_univ, true_and] at hk ⊢
      refine ⟨?_, BitVec.eq_of_toNat_eq (hk.trans hk0.symm)⟩
      rw [rowMajor_ln, rowMajor_ln]; exact hmax k hk
  · rw [Finset.sum_eq_zero, Finset.sum_eq_zero]
    · exact fun k _ => if_neg fun hh => hex ⟨k, hh⟩
    · exact fun k _ => if_neg fun hh => hex ⟨k, hh.2⟩

/-- The same with the counts negated. -/
theorem gain_neg (lab v w : V16.Idx → BitVec 32) (mask : V16.Idx → BitVec 1) (hw : ∀ x, w x = - v x) (c : Nat) :
    gain lab w mask c = - gain lab v mask c := by
  unfold gain
  rw [← Finset.sum_neg_distrib]
  refine Finset.sum_congr rfl fun k _ => ?_
  split_ifs
  · exact hw _
  · exact neg_zero.symm

/-- One lane's constant: lane `k0` if the condition `P` holds, no lane otherwise. -/
theorem gain_lane (lab v : V16.Idx → BitVec 32) (mask : V16.Idx → BitVec 1) (k0 : Fin 16) (P : Prop) [Decidable P]
    (hm : ∀ k, mask (ln k) = 1 ↔ P ∧ k = k0) (c : Nat) :
    gain lab v mask c = if P ∧ (lab (ln k0)).toNat = c then v (ln k0) else 0 := by
  unfold gain
  rw [Finset.sum_eq_single k0]
  · simp only [hm, and_true]
  · exact fun k _ hk => if_neg fun hh => hk ((hm k).1 hh.1).2
  · exact fun hh => absurd (Finset.mem_univ _) hh

end Cert.Proof.Count
end
-- ==== Proof.Base.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Count

/-!
# The launch's set-up and the table of counts

The program as the launch theorem sees it, the buffers of a vector subcore, and the assertion `Hist`: the sum
of the four copies of every counter is known. `wp_scat` is the rule for an indexed add into the table.
-/

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Count

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-- The handshakes' library is the left factor; the transfers' counters are the right one. -/
abbrev EH : Emb UH (MT nD τ sig (HIx 1) (Elt F) ℕ UU ℕ) := embL

/-! ## The arrays and the scratch -/

abbrev flatLoc (d : Dev nD) : Loc nD τ sig := (SparseCore.T d).loc main_v0
abbrev outLoc (d : Dev nD) : Loc nD τ sig := (SparseCore.T d).loc main_v1

/-- The labels, flat; the results; a subcore's window of the labels, its table of counts, its row of results. -/
abbrev aFlat : Memref sig .scVector .hbm S262144 .i32 := Memref.whole main_v0_scv
abbrev aOut : Memref sig .scVector .hbm S32x80 .i32 := Memref.whole main_v1_scv
abbrev aLbl : Memref sig .scVector .vmem S12288 .i32 := Memref.whole cc0_scratch0
abbrev aHist : Memref sig .scVector .vmem S512 .i32 := Memref.whole cc0_scratch1
abbrev aRes : Memref sig .scVector .vmem S80 .i32 := Memref.whole cc0_scratch2

variable [FloatOps F]

section Body
variable (d : Dev nD) (L : grid0.Coords)

abbrev cV : Fin τ.nSC := (L 0).castLE hcore0
abbrev jV : Fin τ.nSub := (L 1).castLE hsub0

/-- The vector subcore at coordinates `L`. -/
abbrev VT : Thread nD τ := V d (cV L) (jV L)

/-- The table of counts, its four copies' sums at `cnt`. -/
def Hist (cnt : ℕ → BitVec 32) : sProp 𝕄 :=
  iprop(∃ h : Buf (Elt F) (aHist.view.loc (VT d L)), ⌜∀ c < 128, tot h c = cnt c⌝ ∗ aHist.view.loc (VT d L) ↦{fullShare} h)

omit [FloatOps F] in
theorem pts_hist_access (f : Buf (Elt F) (aHist.view.loc (VT d L))) :
    (((aHist).access (.whole S512)).loc (VT d L) ↦[((aHist).access (.whole S512)).set]{fullShare} f : sProp 𝕄)
      = aHist.view.loc (VT d L) ↦{fullShare} f := by
  exact congrArg (fun S => (aHist.view.loc (VT d L) ↦[S]{fullShare} f : sProp 𝕄)) (Memref.set_access_whole cc0_scratch1)

omit [FloatOps F] in
theorem write_hist (f w : Buf (Elt F) (aHist.view.loc (VT d L))) :
    ((aHist).access (.whole S512)).write (Elt F) f w Finset.univ = w := by
  exact Memref.write_access_whole_univ (Elt F) cc0_scratch1 f w

omit [FloatOps F] in
theorem read_hist (f : Buf (Elt F) (aHist.view.loc (VT d L))) :
    ((aHist).access (.whole S512)).read (Elt F) f = f := by
  exact Memref.read_access_whole (Elt F) cc0_scratch1 f

/-- An indexed add into the table: the sums move by what the lanes gain. -/
theorem wp_scat {α : Type} {Q : α → sProp 𝕄} {idx v : IVec S16 32} {mask : IVec S16 1}
    {P : Prop} {dec : Decidable P} (hP : P) {hix : P → ∀ a x, ((![idx] : Fin 1 → IVec S16 32) a x).toNat < S512.size a}
    {hs : ((aHist).access (.whole S512)).Stores Finset.univ}
    {k : PUnit → Prog (TpuEff nD τ sig (Elt F) Λ₀ (.scVector (cV L) (jV L))) α}
    (cnt : ℕ → BitVec 32) (lab off : IVec S16 32) (p : ℕ) (hp : p < 4)
    (hidx : ∀ x, idx x = lab x + off x) (hoff : ∀ x, (off x).toNat = 128 * p) (hlab : ∀ x, (lab x).toNat < 128) :
    Hist d L cnt
      ⊢ iprop((Hist d L (fun c => cnt c + gain lab v mask c) -∗ wp frame (wpE (defs₀ (F := F)) 𝒱₀ (VT d L) none) Set.univ (k ⟨⟩) Q)
        -∗ wp frame (wpE (defs₀ (F := F)) 𝒱₀ (VT d L) none) Set.univ
          (.op (TpuEff.assume P dec) fun w => SparseCore.vectorStoreIdx (F := F) aHist ![idx] v mask true (hix w.down) hs >>= k) Q) := by
  unfold Hist
  iintro ⟨%h, %hh, H⟩ Hk
  rw [wp_assume_of _ _ _ _ hP]
  ihave H := (Entails.of_eq (pts_hist_access (F := F) d L _).symm) $$ H
  iapply (SparseCore.wp_vectorStoreIdx 𝒱₀ (VT d L) none Set.univ (base := aHist)) $$ H
  iintro H
  ihave H := (Entails.of_eq (pts_hist_access (F := F) d L _)) $$ H
  iapply Hk
  iexists _
  isplitr
  rotate_left
  · iexact H
  · ipureintro
    intro c hc
    dsimp only
    rw [← hh c hc, write_hist, read_hist]
    exact tot_storeIdx (F := F) h lab off idx v mask (hix hP) p hp hidx hoff hlab c hc

end Body
end Cert.Proof.Tile
end
-- ==== Proof.T1.lean ====
module
public import proofs.«01_k».proof.Proof.Base
@[expose] public section
noncomputable section
namespace Cert.Proof.Tile
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Count
variable {F : FTy → Type}

local notation "𝕄" => MT nD τ sig (HIx 1) (Elt F) ℕ UU ℕ

/-- Cell `n` of the window of labels. -/
def lcell (n : Nat) : S12288.Idx := fun a => ⟨n % 12288, by rw [Fin.eq_zero a]; exact Nat.mod_lt _ (by decide)⟩

/-- The label in cell `n` of the window. -/
def lval (fl : S12288.Idx → BitVec 32) (n : ℕ) : ℕ := (fl (lcell n)).toNat

/-- How many of the sixteen labels from `a` on are `c`. -/
def grp (G : ℕ → ℕ) (a c : ℕ) : BitVec 32 := ∑ k : Fin 16, if G (a + k.val) = c then 1 else 0

theorem read_lbl (fl : S12288.Idx → BitVec 32) (off : Fin 1 → ℕ) (inb : ∀ a, off a + S16.size a ≤ S12288.size a) (k : Fin 16) :
   aLbl.view.readAt (Elt F) (Rect.unit (s := S12288) off S16.size inb).toLoadRect fl (ln k) = fl (lcell (off 0 + k.val)) := by
  rw [View.readAt_apply]
  show fl _ = fl _
  congr 1
  funext a
  obtain rfl : a = 0 := Fin.eq_zero a
  apply Fin.ext
  have := inb 0
  have hk : (off 0 + k.val) % 12288 = off 0 + k.val := Nat.mod_eq_of_lt (by have : off 0 + 16 ≤ 12288 := this; omega)
  show off 0 + 1 * k.val = (off 0 + k.val) % 12288
  rw [hk, one_mul]

variable [FloatOps F]
variable (d : Dev nD) (L : grid0.Coords)

/-- A vector of sixteen labels read from cell `a` of the window on. -/
def Labels16 (fl : S12288.Idx → BitVec 32) (a : ℕ) (v : IVec S16 32) : Prop := ∀ k : Fin 16, v (ln k) = fl (lcell (a + k.val))

theorem Labels16.occ {fl : S12288.Idx → BitVec 32} {a : ℕ} {v : IVec S16 32} (h : Labels16 fl a v) (c : ℕ) :
    occ v c = grp (lval fl) a c := by
  unfold Count.occ grp lval
  exact Finset.sum_congr rfl fun k _ => by rw [h k]

theorem Labels16.lt {fl : S12288.Idx → BitVec 32} {a : ℕ} {v : IVec S16 32} (h : Labels16 fl a v) (hl : ∀ x, (fl x).toNat < 128) (x : S16.Idx) :
    (v x).toNat < 128 := by
  rw [← ln_lx x, h]; exact hl _

/-- A load of sixteen labels. -/
theorem wp_lbl {α : Type} {Q : α → sProp 𝕄} {q : PosShare TreeShare} {off : Fin 1 → ℕ} {inb : ∀ a, off a + S16.size a ≤ S12288.size a}
    {hl : aLbl.view.LoadsAt (Rect.unit (s := S12288) off S16.size inb).toLoadRect}
    {k : (S16.Idx → BitVec 32) → Prog (TpuEff nD τ sig (Elt F) Λ₀ (.scVector (cV L) (jV L))) α}
    (fl : Buf (Elt F) (aLbl.view.loc (VT d L))) :
    (aLbl.view.loc (VT d L) ↦{q} fl : sProp 𝕄)
      ⊢ iprop((∀ v : IVec S16 32, ⌜Labels16 fl (off 0) v⌝ -∗ (aLbl.view.loc (VT d L) ↦{q} fl) -∗ wp frame (wpE (defs₀ (F := F)) 𝒱₀ (VT d L) none) Set.univ (k v) Q)
        -∗ wp frame (wpE (defs₀ (F := F)) 𝒱₀ (VT d L) none) Set.univ
          (.op (.load aLbl (Rect.unit (s := S12288) off S16.size inb).toLoadRect hl) k) Q) := by
  iintro H Hk
  iapply (wp_load 𝒱₀ (VT d L) none Set.univ (m := aLbl) (S := Finset.univ) (Finset.subset_univ _)) $$ H
  iintro H
  ispecialize Hk $$ %(aLbl.view.readAt (Elt F) (Rect.unit (s := S12288) off S16.size inb).toLoadRect fl)
  iapply Hk $$ []
  · ipureintro; exact fun k => read_lbl fl off inb k
  · iexact H

/-- A copy's displacement. -/
def Off (v : IVec S16 32) (p : ℕ) : Prop := ∀ x, (v x).toNat = 128 * p

theorem chk_of {lab off : IVec S16 32} {p : ℕ} (hp : p < 4) (hoff : Off off p) (hlab : ∀ x, (lab x).toNat < 128) :
    ∀ (a : Fin 1) x, ((![addi lab off] : Fin 1 → IVec S16 32) a x).toNat < S512.size a := by
  intro a x
  obtain rfl : a = 0 := Fin.eq_zero a
  show (lab x + off x).toNat < 512
  have := hlab x; have := hoff x
  rw [BitVec.toNat_add]; omega

/-- The scatter of a vector of labels' counts into copy `p`. -/
theorem wp_count {α : Type} {Q : α → sProp 𝕄} {lab off v : IVec S16 32} {mask : IVec S16 1}
    {P : Prop} {dec : Decidable P} {hix : P → ∀ a x, ((![addi lab off] : Fin 1 → IVec S16 32) a x).toNat < S512.size a}
    {hs : ((aHist).access (.whole S512)).Stores Finset.univ}
    {k : PUnit → Prog (TpuEff nD τ sig (Elt F) Λ₀ (.scVector (cV L) (jV L))) α}
    {fl : S12288.Idx → BitVec 32} {a p : ℕ} {cnt : ℕ → BitVec 32}
    (hP : P = ∀ (a : Fin 1) x, ((![addi lab off] : Fin 1 → IVec S16 32) a x).toNat < S512.size a)
    (hp : p < 4) (hoff : Off off p) (hl : Labels16 fl a lab) (hlt : ∀ x, (fl x).toNat < 128) (g : ℕ → BitVec 32)
    (hg : ∀ c, gain lab v mask c = g c) :
    Hist d L cnt
      ⊢ iprop((Hist d L (fun c => cnt c + g c) -∗ wp frame (wpE (defs₀ (F := F)) 𝒱₀ (VT d L) none) Set.univ (k ⟨⟩) Q)
        -∗ wp frame (wpE (defs₀ (F := F)) 𝒱₀ (VT d L) none) Set.univ
          (.op (TpuEff.assume P dec) fun w => SparseCore.vectorStoreIdx (F := F) aHist ![addi lab off] v mask true (hix w.down) hs >>= k) Q) := by
  rw [← show (fun c => cnt c + gain lab v mask c) = fun c => cnt c + g c from funext fun c => by rw [hg]]
  exact wp_scat d L (hP.mpr (chk_of hp hoff (hl.lt hlt))) cnt lab off p hp (fun _ => rfl) hoff (hl.lt hlt)

theorem part1_pure (v43 : BitVec 1) (v99 a b : BitVec 32) (t : Fin k0_t1_loop.trips) :
    ∃ r, k0_part1 (F := F) L aFlat (Memref.isWhole_whole _) aOut (Memref.isWhole_whole _) aLbl (Memref.isWhole_whole _) aHist (Memref.isWhole_whole _)
      aRes (Memref.isWhole_whole _) cc0_scoped0 cc0_scoped1 v43 v99 a b t = Prog.ret r := by
  rw [k0_part1_eq_skeleton]; exact ⟨_, rfl⟩
theorem part2_pure (v43 : BitVec 1) (v99 v206 v239 c : BitVec 32) :
    ∃ r, k0_part2 (F := F) L aFlat (Memref.isWhole_whole _) aOut (Memref.isWhole_whole _) aLbl (Memref.isWhole_whole _) aHist (Memref.isWhole_whole _)
      aRes (Memref.isWhole_whole _) cc0_scoped0 cc0_scoped1 v43 v99 v206 v239 c = Prog.ret r := by
  rw [k0_part2_eq_skeleton]; exact ⟨_, rfl⟩
theorem part3_pure (v43 : BitVec 1) (v99 v206 v272 v274 v275 c : BitVec 32) :
    ∃ r, k0_part3 (F := F) L aFlat (Memref.isWhole_whole _) aOut (Memref.isWhole_whole _) aLbl (Memref.isWhole_whole _) aHist (Memref.isWhole_whole _)
      aRes (Memref.isWhole_whole _) cc0_scoped0 cc0_scoped1 v43 v99 v206 v272 v274 v275 c = Prog.ret r := by
  rw [k0_part3_eq_skeleton]; exact ⟨_, rfl⟩

/-- What trip `t` of the first loop adds to counter `c`. -/
def trip1 (fl : S12288.Idx → BitVec 32) (t : Fin k0_t1_loop.trips) (c : ℕ) : BitVec 32 :=
  ∑ j ∈ Finset.range 8, grp (lval fl) (k0_off2 L t (BitVec.ofNat 32 j) 0) c

theorem ones (x : S16.Idx) : (constantI (s := S16) (w := 1) 1#1) x = 1 := rfl

theorem t1_trip (q : PosShare TreeShare) (fl : Buf (Elt F) (aLbl.view.loc (VT d L))) (hlt : ∀ x, (fl x).toNat < 128)
    (v28 v32 v99 : BitVec 32) (v40 : IVec S16 1) (v41 v42 v44 v45 v46 v47 v64 : IVec S16 32) (v43 : BitVec 1)
    (h44 : Off v44 0) (h45 : Off v45 1) (h46 : Off v46 2) (h47 : Off v47 3) (cnt : ℕ → BitVec 32) (t : Fin k0_t1_loop.trips) :
    iprop((aLbl.view.loc (VT d L) ↦{q} fl) ∗ Hist d L cnt)
      ⊢ wp frame (wpE (defs₀ (F := F)) 𝒱₀ (VT d L) none) Set.univ
        (k0_t1_body L aFlat (Memref.isWhole_whole _) aOut (Memref.isWhole_whole _) aLbl (Memref.isWhole_whole _) aHist (Memref.isWhole_whole _)
          aRes (Memref.isWhole_whole _) cc0_scoped0 cc0_scoped1 v28 v32 v40 v41 v42 v43 v44 v45 v46 v47 v64 v99 t ())
        fun _ => iprop((aLbl.view.loc (VT d L) ↦{q} fl : sProp 𝕄) ∗ Hist d L fun c => cnt c + trip1 L fl t c) := by
  unfold k0_t1_body
  obtain ⟨r1, h1⟩ := part1_pure (F := F) L v43 v99 0#32 1#32 t
  obtain ⟨r2, h2⟩ := part2_pure (F := F) L v43 v99 r1.1 r1.2.2.2.1 r1.2.2.2.2
  obtain ⟨r3, h3⟩ := part3_pure (F := F) L v43 v99 r1.1 r2.2.2.1 r2.2.2.2.1 r2.2.2.2.2.1 r2.2.2.2.2.2
  simp only [h1, h2, h3, k0_part4_eq_skeleton, Prog.bind_ret]
  unfold k0_part4_skel
  simp only [Prog.lift, Prog.bind_op, Prog.bind_ret, Prog.pure_eq_ret]
  iintro ⟨Hl, Hh⟩
  iapply (wp_lbl (F := F) d L fl) $$ Hl
  iintro %v336 %h336 Hl
  iapply (wp_lbl (F := F) d L fl) $$ Hl
  iintro %v338 %h338 Hl
  iapply (wp_lbl (F := F) d L fl) $$ Hl
  iintro %v340 %h340 Hl
  iapply (wp_lbl (F := F) d L fl) $$ Hl
  iintro %v342 %h342 Hl
  iapply (wp_lbl (F := F) d L fl) $$ Hl
  iintro %v344 %h344 Hl
  iapply (wp_lbl (F := F) d L fl) $$ Hl
  iintro %v346 %h346 Hl
  iapply (wp_lbl (F := F) d L fl) $$ Hl
  iintro %v348 %h348 Hl
  iapply (wp_lbl (F := F) d L fl) $$ Hl
  iintro %v350 %h350 Hl
  iapply (wp_count (F := F) d L (hix := k0_idx1_inb _) rfl (p := 0) (by decide) h44 h336 hlt _ (fun c => (gain_scanCount v336 _ ones c).trans (h336.occ c))) $$ Hh
  iintro Hh
  iapply (wp_count (F := F) d L (hix := k0_idx2_inb _) rfl (p := 1) (by decide) h45 h338 hlt _ (fun c => (gain_scanCount v338 _ ones c).trans (h338.occ c))) $$ Hh
  iintro Hh
  iapply (wp_count (F := F) d L (hix := k0_idx3_inb _) rfl (p := 2) (by decide) h46 h340 hlt _ (fun c => (gain_scanCount v340 _ ones c).trans (h340.occ c))) $$ Hh
  iintro Hh
  iapply (wp_count (F := F) d L (hix := k0_idx4_inb _) rfl (p := 3) (by decide) h47 h342 hlt _ (fun c => (gain_scanCount v342 _ ones c).trans (h342.occ c))) $$ Hh
  iintro Hh
  iapply (wp_count (F := F) d L (hix := k0_idx5_inb _) rfl (p := 0) (by decide) h44 h344 hlt _ (fun c => (gain_scanCount v344 _ ones c).trans (h344.occ c))) $$ Hh
  iintro Hh
  iapply (wp_count (F := F) d L (hix := k0_idx6_inb _) rfl (p := 1) (by decide) h45 h346 hlt _ (fun c => (gain_scanCount v346 _ ones c).trans (h346.occ c))) $$ Hh
  iintro Hh
  iapply (wp_count (F := F) d L (hix := k0_idx7_inb _) rfl (p := 2) (by decide) h46 h348 hlt _ (fun c => (gain_scanCount v348 _ ones c).trans (h348.occ c))) $$ Hh
  iintro Hh
  iapply (wp_count (F := F) d L (hix := k0_idx8_inb _) rfl (p := 3) (by decide) h47 h350 hlt _ (fun c => (gain_scanCount v350 _ ones c).trans (h350.occ c))) $$ Hh
  iintro Hh
  rw [wp_ret]
  imodintro
  isplitl [Hl]; · iexact Hl
  rw [show (fun c => cnt c + trip1 L fl t c) = _ from funext fun c => ?_]
  · iexact Hh
  · unfold trip1
    simp only [Finset.sum_range_succ, Finset.sum_range_zero, zero_add, add_assoc]

end Cert.Proof.Tile
end
-- ==== Proof.Mode.lean ====
module

public import proofs.«01_k».proof.Proof.Count

/-!
# The most frequent label

The largest key `count · 128 + (127 − label)` of the 128 labels, its label read back from its low seven bits:
the smallest of the labels with the largest count.
-/

@[expose] public section

noncomputable section
namespace Cert.Proof.Count
open Idealize.ShloMosaic

/-- `r` is the smallest of the labels below 128 whose count is the largest. -/
def IsMode (N : ℕ → ℕ) (r : ℕ) : Prop := r < 128 ∧ (∀ c < 128, N c ≤ N r) ∧ ∀ c < r, N c < N r

theorem IsMode.unique {N : ℕ → ℕ} {r s : ℕ} (hr : IsMode N r) (hs : IsMode N s) : r = s := by
  rcases lt_trichotomy r s with h | h | h
  · exact absurd (hs.2.2 r h) (not_lt.2 (hr.2.1 s hs.1))
  · exact h
  · exact absurd (hr.2.2 s h) (not_lt.2 (hs.2.1 r hr.1))

/-- The smallest most frequent label. -/
def mode (N : ℕ → ℕ) : ℕ := Classical.epsilon (IsMode N)

theorem IsMode.eq_mode {N : ℕ → ℕ} {r : ℕ} (hr : IsMode N r) : mode N = r :=
  (Classical.epsilon_spec (p := IsMode N) ⟨r, hr⟩).unique hr

/-- The key of label `c`. -/
def key (N : ℕ → ℕ) (c : ℕ) : ℕ := N c * 128 + (127 - c)

/-- The label of the largest key is the mode. -/
theorem isMode_of_key {N : ℕ → ℕ} {M : ℕ} (hle : ∀ c < 128, key N c ≤ M) (hex : ∃ c < 128, M = key N c) : IsMode N (127 - M % 128) := by
  obtain ⟨c0, hc0, rfl⟩ := hex
  have e : 127 - key N c0 % 128 = c0 := by unfold key; omega
  rw [e]
  refine ⟨hc0, fun c hc => ?_, fun c hc => ?_⟩
  · have := hle c hc; unfold key at this; omega
  · have := hle c (by omega); unfold key at this; omega

/-! ## The table read sixteen counters at a time -/

/-- Sixteen cells of the table from cell `a` on. -/
def hv (h : V512.Idx → BitVec 32) (a : ℕ) : IVec V16 32 := fun x => h (cell (a + (lx x).val))

/-- The keys of labels `16 j …`, as the table gives them. -/
def keyv (h : V512.Idx → BitVec 32) (j : ℕ) (kx : IVec V16 32) : IVec V16 32 :=
  addi (muli (addi (addi (hv h (16 * j)) (hv h (128 + 16 * j))) (addi (hv h (256 + 16 * j)) (hv h (384 + 16 * j)))) (broadcast V16 128#32)) kx

/-- The largest key of all lanes up to each, then its label. -/
def labelOf (m : IVec V16 32) : IVec V16 32 :=
  subi (broadcast V16 127#32) (andi (xori (scan .max (xori m (broadcast V16 2147483648#32))) (broadcast V16 2147483648#32)) (broadcast V16 127#32))

/-- The lanes of `v` are the words of `f`, below `2^20`. -/
def Words (v : IVec V16 32) (f : ℕ → ℕ) : Prop := ∀ k : Fin 16, v (ln k) = BitVec.ofNat 32 (f k) ∧ f k < 2 ^ 20

theorem Words.max {v w : IVec V16 32} {f g : ℕ → ℕ} (hv : Words v f) (hw : Words w g) : Words (maxsi v w) fun k => max (f k) (g k) := by
  intro k
  obtain ⟨h1, h2⟩ := hv k
  obtain ⟨h3, h4⟩ := hw k
  refine ⟨?_, max_lt h2 h4⟩
  show IntOp.maxsi (v (ln k)) (w (ln k)) = _
  rw [h1, h3]
  have t1 : (BitVec.ofNat 32 (f k)).toInt = f k := by
    rw [BitVec.toInt_eq_toNat_of_lt] <;> rw [BitVec.toNat_ofNat, Nat.mod_eq_of_lt (by omega)]; omega
  have t2 : (BitVec.ofNat 32 (g k)).toInt = g k := by
    rw [BitVec.toInt_eq_toNat_of_lt] <;> rw [BitVec.toNat_ofNat, Nat.mod_eq_of_lt (by omega)]; omega
  unfold IntOp.maxsi
  simp only [BitVec.slt_eq_decide, BitVec.sle_eq_decide, t1, t2, decide_eq_true_eq]
  split_ifs with hh <;> congr 1 <;> omega

theorem words_keyv {h : V512.Idx → BitVec 32} {N : ℕ → ℕ} {kx : IVec V16 32} {j : ℕ} (hj : j < 8)
    (ht : ∀ c < 128, tot h c = BitVec.ofNat 32 (N c)) (hN : ∀ c, N c ≤ 4096)
    (hk : ∀ k : Fin 16, kx (ln k) = BitVec.ofNat 32 (127 - (16 * j + k))) : Words (keyv h j kx) fun k => key N (16 * j + k) := by
  intro k
  have hc : 16 * j + k.val < 128 := by omega
  have e : keyv h j kx (ln k) = tot h (16 * j + k) * 128#32 + kx (ln k) := by
    show ((h (cell (16 * j + k)) + h (cell (128 + 16 * j + k))) + (h (cell (256 + 16 * j + k)) + h (cell (384 + 16 * j + k)))) * 128#32 + _ = _
    unfold tot
    simp only [Nat.add_assoc]
  have hN' := hN (16 * j + k)
  refine ⟨?_, by show key N _ < _; unfold key; omega⟩
  rw [e, ht _ hc, hk]
  apply BitVec.eq_of_toNat_eq
  show _ = (BitVec.ofNat 32 (key N (16 * j + k))).toNat
  unfold key
  simp only [BitVec.toNat_add, BitVec.toNat_mul, BitVec.toNat_ofNat]
  omega

theorem maxui_ofNat {a b : ℕ} (ha : a < 2 ^ 32) (hb : b < 2 ^ 32) :
    IntOp.maxui (BitVec.ofNat 32 a) (BitVec.ofNat 32 b) = BitVec.ofNat 32 (max a b) := by
  unfold IntOp.maxui
  simp only [BitVec.ult_eq_decide, BitVec.ule_eq_decide, BitVec.toNat_ofNat, Nat.mod_eq_of_lt ha, Nat.mod_eq_of_lt hb, decide_eq_true_eq]
  split_ifs with hh <;> congr 1 <;> omega

theorem fold_max {v : IVec V16 32} {f : Fin 16 → ℕ} (h : ∀ k : Fin 16, v (ln k) = BitVec.ofNat 32 (f k)) (hf : ∀ k : Fin 16, f k < 2 ^ 32) (l : List (Fin 16)) :
    ∀ a < 2 ^ 32, l.foldl (fun r k => ScanKind.step .max r (v (ln k))) (BitVec.ofNat 32 a) = BitVec.ofNat 32 (l.foldl (fun r k => max r (f k)) a) := by
  induction l with
  | nil => intro a _; rfl
  | cons k l ih =>
    intro a ha
    rw [List.foldl_cons, List.foldl_cons, ← ih _ (max_lt ha (hf k)), h k]
    show List.foldl _ (IntOp.maxui _ _) l = _
    rw [maxui_ofNat ha (hf k)]

theorem le_fold (f : Fin 16 → ℕ) (l : List (Fin 16)) : ∀ a, (a ≤ l.foldl (fun r k => max r (f k)) a) ∧ ∀ k ∈ l, f k ≤ l.foldl (fun r k => max r (f k)) a := by
  induction l with
  | nil => exact fun a => ⟨le_rfl, fun k hk => absurd hk (by simp)⟩
  | cons k l ih =>
    intro a
    obtain ⟨h1, h2⟩ := ih (max a (f k))
    refine ⟨(le_max_left _ _).trans h1, fun k' hk' => ?_⟩
    rcases List.mem_cons.1 hk' with rfl | h
    · exact (le_max_right _ _).trans h1
    · exact h2 k' h

theorem fold_mem (f : Fin 16 → ℕ) (l : List (Fin 16)) : ∀ a, l.foldl (fun r k => max r (f k)) a = a ∨ ∃ k ∈ l, l.foldl (fun r k => max r (f k)) a = f k := by
  induction l with
  | nil => exact fun a => .inl rfl
  | cons k l ih =>
    intro a
    rw [List.foldl_cons]
    rcases ih (max a (f k)) with h | ⟨k', hk', h⟩
    · rcases max_choice a (f k) with e | e
      · exact .inl (h.trans e)
      · exact .inr ⟨k, by simp, h.trans e⟩
    · exact .inr ⟨k', by simp [hk'], h⟩

theorem xor_top {a : ℕ} (h : a < 2 ^ 31) : BitVec.ofNat 32 a ^^^ 2147483648#32 = BitVec.ofNat 32 (2 ^ 31 + a) := by
  apply BitVec.eq_of_toNat_eq
  rw [BitVec.toNat_xor, BitVec.toNat_ofNat, BitVec.toNat_ofNat, Nat.mod_eq_of_lt (by omega), Nat.mod_eq_of_lt (by omega)]
  have e := Nat.two_pow_add_eq_or_of_lt h 1
  rw [Nat.mul_one] at e
  rw [e]
  have e2 : (2 ^ 31 ||| a) % 2 ^ 32 = 2 ^ 31 ||| a := by rw [← e]; exact Nat.mod_eq_of_lt (by omega)
  rw [BitVec.toNat_ofNat, e2]
  refine Nat.eq_of_testBit_eq fun i => ?_
  show (a ^^^ 2 ^ 31).testBit i = _
  rw [Nat.testBit_xor, Nat.testBit_or, Nat.testBit_two_pow]
  by_cases hi : 31 = i
  · subst hi; rw [Nat.testBit_lt_two_pow h]; simp
  · simp [hi]

/-- Lane fifteen holds the label of the largest word. -/
theorem labelOf_last {m : IVec V16 32} {f : ℕ → ℕ} (h : Words m f) :
    ∃ M, (∀ k < 16, f k ≤ M) ∧ (∃ k < 16, M = f k) ∧ labelOf m (ln 15) = BitVec.ofNat 32 (127 - M % 128) := by
  have hx : ∀ k : Fin 16, xori m (broadcast V16 2147483648#32) (ln k) = BitVec.ofNat 32 (2 ^ 31 + f k) := by
    intro k
    obtain ⟨h1, h2⟩ := h k
    show m (ln k) ^^^ 2147483648#32 = _
    rw [h1, xor_top (by omega)]
  have hlt : ∀ k : Fin 16, 2 ^ 31 + f k < 2 ^ 32 := fun k => by have := (h k).2; omega
  obtain ⟨l, hl, hs⟩ : ∃ l : List (Fin 16), (∀ k : Fin 16, k = 0 ∨ k ∈ l) ∧ scan .max (xori m (broadcast V16 2147483648#32)) (ln 15)
      = l.foldl (fun r k => ScanKind.step .max r (xori m (broadcast V16 2147483648#32) (ln k))) (xori m (broadcast V16 2147483648#32) (ln 0)) :=
    ⟨(List.finRange 16).filter fun k => decide (0 < k.val ∧ k.val ≤ (15 : Fin 16).val), by decide, rfl⟩
  rw [hx 0, fold_max (f := fun k : Fin 16 => 2 ^ 31 + f k) hx hlt l _ (hlt 0)] at hs
  obtain ⟨h1, h2⟩ := le_fold (fun k : Fin 16 => 2 ^ 31 + f k) l (2 ^ 31 + f (0 : Fin 16).val)
  have h3 := fold_mem (fun k : Fin 16 => 2 ^ 31 + f k) l (2 ^ 31 + f (0 : Fin 16).val)
  generalize l.foldl (fun r (k : Fin 16) => max r (2 ^ 31 + f k.val)) (2 ^ 31 + f (0 : Fin 16).val) = R at hs h1 h2 h3
  obtain ⟨k0, hk0⟩ : ∃ k0 : Fin 16, R = 2 ^ 31 + f k0 := by
    rcases h3 with h3 | ⟨k, _, h3⟩
    · exact ⟨0, h3⟩
    · exact ⟨k, h3⟩
  refine ⟨f k0, fun k hk => ?_, ⟨k0, k0.isLt, rfl⟩, ?_⟩
  · rcases hl ⟨k, hk⟩ with e | e
    · have e' : k = (0 : Fin 16).val := congrArg Fin.val e
      rw [e']; omega
    · have := h2 _ e; dsimp only at this; omega
  · show 127#32 - ((scan .max (xori m (broadcast V16 2147483648#32)) (ln 15) ^^^ 2147483648#32) &&& 127#32) = _
    have hk := (h k0).2
    rw [hs, hk0, ← xor_top (by omega), BitVec.xor_assoc, BitVec.xor_self, BitVec.xor_zero]
    apply BitVec.eq_of_toNat_eq
    have e : (BitVec.ofNat 32 (f k0) &&& 127#32).toNat = f k0 % 128 := by
      rw [BitVec.toNat_and, BitVec.toNat_ofNat, Nat.mod_eq_of_lt (by omega)]
      exact Nat.and_two_pow_sub_one_eq_mod _ 7
    rw [BitVec.toNat_sub, e, BitVec.toNat_ofNat, BitVec.toNat_ofNat]
    omega

/-- The label of the largest of eight vectors of keys, the vectors taken in order. -/
def bestv (h : V512.Idx → BitVec 32) (k0 k1 k2 k3 k4 k5 k6 k7 : IVec V16 32) : IVec V16 32 :=
  labelOf (maxsi (maxsi (maxsi (maxsi (maxsi (maxsi (maxsi (keyv h 0 k0) (keyv h 1 k1)) (keyv h 2 k2)) (keyv h 3 k3)) (keyv h 4 k4)) (keyv h 5 k5)) (keyv h 6 k6)) (keyv h 7 k7))

/-- The labels' part of the keys: `127` less the label. -/
def KeyOff (kx : IVec V16 32) (j : ℕ) : Prop := ∀ k : Fin 16, kx (ln k) = BitVec.ofNat 32 (127 - (16 * j + k))

/-- Lane fifteen holds the smallest most frequent label. -/
theorem bestv_last {h : V512.Idx → BitVec 32} {N : ℕ → ℕ} (ht : ∀ c < 128, tot h c = BitVec.ofNat 32 (N c)) (hN : ∀ c, N c ≤ 4096)
    {k0 k1 k2 k3 k4 k5 k6 k7 : IVec V16 32} (h0 : KeyOff k0 0) (h1 : KeyOff k1 1) (h2 : KeyOff k2 2) (h3 : KeyOff k3 3)
    (h4 : KeyOff k4 4) (h5 : KeyOff k5 5) (h6 : KeyOff k6 6) (h7 : KeyOff k7 7) :
    bestv h k0 k1 k2 k3 k4 k5 k6 k7 (ln 15) = BitVec.ofNat 32 (mode N) := by
  have w := (((((((words_keyv (by decide) ht hN h0).max (words_keyv (by decide) ht hN h1)).max (words_keyv (by decide) ht hN h2)).max
    (words_keyv (by decide) ht hN h3)).max (words_keyv (by decide) ht hN h4)).max (words_keyv (by decide) ht hN h5)).max
    (words_keyv (by decide) ht hN h6)).max (words_keyv (by decide) ht hN h7)
  obtain ⟨M, hle, hex, e⟩ := labelOf_last w
  unfold bestv
  rw [e]
  have hm : IsMode N (127 - M % 128) := by
    refine isMode_of_key (fun c hc => ?_) ?_
    · have h := hle (c % 16) (by omega)
      obtain ⟨h, a7⟩ := max_le_iff.1 h
      obtain ⟨h, a6⟩ := max_le_iff.1 h
      obtain ⟨h, a5⟩ := max_le_iff.1 h
      obtain ⟨h, a4⟩ := max_le_iff.1 h
      obtain ⟨h, a3⟩ := max_le_iff.1 h
      obtain ⟨h, a2⟩ := max_le_iff.1 h
      obtain ⟨a0, a1⟩ := max_le_iff.1 h
      have hc' : c = 16 * (c / 16) + c % 16 := by omega
      have hj : c / 16 < 8 := by omega
      rw [hc']
      interval_cases c / 16 <;> assumption
    · obtain ⟨k, hk, rfl⟩ := hex
      have step : ∀ x y : ℕ, (∃ c < 128, x = key N c) → (∃ c < 128, y = key N c) → ∃ c < 128, max x y = key N c := by
        intro x y hx hy
        rcases max_choice x y with e | e <;> rw [e] <;> assumption
      have one : ∀ j < 8, ∃ c < 128, key N (16 * j + k) = key N c := fun j hj => ⟨_, by omega, rfl⟩
      exact step _ _ (step _ _ (step _ _ (step _ _ (step _ _ (step _ _ (step _ _ (one 0 (by decide)) (one 1 (by decide))) (one 2 (by decide)))
        (one 3 (by decide))) (one 4 (by decide))) (one 5 (by decide))) (one 6 (by decide))) (one 7 (by decide))
  rw [hm.eq_mode]

end Cert.Proof.Count
end
-- ==== Proof.Offs.lean ====
module

public import proofs.«01_k».proof.Proof.Base
public import proofs.«01_k».proof.Proof.Mode
public import proofs.«01_k».proof.Proof.Gen.KernelIdeal.Skeleton

/-!
# Where the loops read

The places the kernel computes, in closed form.
-/

@[expose] public section

noncomputable section
namespace Cert.Proof.Tile
open Cert.KernelIdeal Cert.KernelIdeal.Gen
open Idealize.ShloMosaic
open Cert.Proof.Count

/-! ## Where a trip reads -/

/-- Where the block that leaves the window starts. -/
def subAt (L : grid0.Coords) (t : Fin k0_t2_loop.trips) : ℕ := k0_off3 L t 0

/-- Where the block that enters the window starts. -/
def addAt (L : grid0.Coords) (t : Fin k0_t2_loop.trips) : ℕ := k0_off8 L t 0#32 0

theorem off4_eq : ∀ (L : grid0.Coords) (t : Fin k0_t2_loop.trips), k0_off4 L t 0 = subAt L t + 128 := by decide +kernel
theorem off5_eq : ∀ (L : grid0.Coords) (t : Fin k0_t2_loop.trips), k0_off5 L t 0 + 16 = addAt L t := by decide +kernel
theorem off6_eq : ∀ (L : grid0.Coords) (t : Fin k0_t2_loop.trips), k0_off6 L t 0 = addAt L t + 112 := by decide +kernel
theorem off7_eq : ∀ (L : grid0.Coords) (t : Fin k0_t2_loop.trips) (j : Fin 8), k0_off7 L t (BitVec.ofNat 32 (16 * j.val)) 0 = subAt L t + 16 * j.val := by decide +kernel
theorem off8_eq : ∀ (L : grid0.Coords) (t : Fin k0_t2_loop.trips) (j : Fin 8), k0_off8 L t (BitVec.ofNat 32 (16 * j.val)) 0 = addAt L t + 16 * j.val := by decide +kernel

/-! ## The part of the row a subcore has -/

/-- The number of the subcore at `L`, of all 32. -/
def wid (L : grid0.Coords) : ℕ := 16 * (L 0).val + (L 1).val

/-- Which quarter of its row's windows the subcore has. -/
def quar (L : grid0.Coords) : ℕ := wid L % 4

/-- Where in the row the labels of quarter `q` start. -/
def sOff (q : ℕ) : ℕ := min (8192 * q - 2048) 20480

theorem off1_eq : ∀ L : grid0.Coords, k0_off1 L 0 = 32768 * (wid L / 4) + sOff (quar L) := by decide +kernel
theorem off9_eq0 : ∀ L : grid0.Coords, k0_off9 L 0 = wid L := by decide +kernel
theorem off9_eq1 : ∀ L : grid0.Coords, k0_off9 L 1 = 0 := by decide +kernel
theorem wid_lt : ∀ L : grid0.Coords, wid L < 32 := by decide +kernel

theorem subAt_eq : ∀ (L : grid0.Coords) (t : Fin k0_t2_loop.trips),
    subAt L t = if 64 * quar L + t.val < 16 then 1920 - 128 * (64 * quar L + t.val) else 128 * (64 * quar L + t.val) - 2048 - sOff (quar L) := by decide +kernel
theorem addAt_eq : ∀ (L : grid0.Coords) (t : Fin k0_t2_loop.trips),
    addAt L t = if 272 ≤ 64 * quar L + t.val + 32 then 46976 - 128 * (64 * quar L + t.val + 32) else 128 * (64 * quar L + t.val + 32) - 2048 - sOff (quar L) := by
  decide +kernel
theorem off2_eq : ∀ (L : grid0.Coords) (t : Fin k0_t1_loop.trips) (j : Fin 8),
    k0_off2 L t (BitVec.ofNat 32 j.val) 0
      = if quar L = 0 then 16 * ((8 * t.val + j.val) % 128) else 8192 * quar L - 2048 - sOff (quar L) + 16 * (8 * t.val + j.val) := by decide +kernel

/-- The quarter and the row's start as the kernel computes them. -/
def vq (L : grid0.Coords) : BitVec 32 :=
  let v1 := Scalar.addi (Scalar.muli (BitVec.ofNat 32 (L 0).val) 16#32) (BitVec.ofNat 32 (L 1).val)
  let v20 := Scalar.select (Scalar.cmpi .eq 4#32 0#32) 1#32 4#32
  let v21 := Scalar.remsi v1 v20
  Scalar.select (Scalar.andi (Scalar.xori (Scalar.cmpi .slt v21 0#32) (Scalar.cmpi .slt v20 0#32)) (Scalar.cmpi .ne v21 0#32)) (Scalar.addi v21 v20) v21
def vs (L : grid0.Coords) : BitVec 32 :=
  Scalar.minsi 20480#32 (Scalar.maxsi 0#32 (Scalar.subi (Scalar.muli (vq L) 8192#32) 2048#32))

theorem vq_eq : ∀ L : grid0.Coords, vq L = BitVec.ofNat 32 (quar L) := by decide +kernel

theorem pay11_iff : ∀ (q : Fin 4) (t : Fin k0_t2_loop.trips) (k : Fin 16),
    k0_pay11 (BitVec.ofNat 32 q.val) k0_pay75 0#32 1#32 t (ln k) = 1 ↔ (64 * q.val + t.val < 16) ∧ k = 0 := by decide +kernel
theorem pay12_iff : ∀ (q : Fin 4) (t : Fin k0_t2_loop.trips) (k : Fin 16),
    k0_pay12 (BitVec.ofNat 32 q.val) k0_pay74 0#32 1#32 t (ln k) = 1 ↔ (272 ≤ 64 * q.val + t.val + 32) ∧ k = 15 := by decide +kernel
theorem pay107_iff : ∀ (q : Fin 4) (k : Fin 16),
    k0_pay107 k0_pay75 (Scalar.cmpi .eq (BitVec.ofNat 32 q.val) 0#32) (ln k) = 1 ↔ q.val = 0 ∧ k = 0 := by decide +kernel
theorem pay74_iff : ∀ k : Fin 16, k0_pay74 (ln k) = 1 ↔ k = 15 := by decide +kernel
theorem key82 : KeyOff k0_pay82 0 := by unfold KeyOff; decide +kernel
theorem key83 : KeyOff k0_pay83 1 := by unfold KeyOff; decide +kernel
theorem key84 : KeyOff k0_pay84 2 := by unfold KeyOff; decide +kernel
theorem key85 : KeyOff k0_pay85 3 := by unfold KeyOff; decide +kernel
theorem key86 : KeyOff k0_pay86 4 := by unfold KeyOff; decide +kernel
theorem key87 : KeyOff k0_pay87 5 := by unfold KeyOff; decide +kernel
theorem key88 : KeyOff k0_pay88 6 := by unfold KeyOff; decide +kernel
theorem key89 : KeyOff k0_pay89 7 := by unfold KeyOff; decide +kernel

end Cert.Proof.Tile
end
-- ==== Proof.T2.lean ====
module

public import proofs.«01_k».proof.Proof.T1
public import proofs.«01_k».proof.Proof.Mode
public import proofs.«01_k».proof.Proof.Offs

/-!
# A trip of the second loop

One slide of the window: the block that leaves is taken off the table, the block that enters is put on, each with
its corrections at the row's ends, then the most frequent label is stored.
-/

@[expose] public section

noncomputable section
namespace Cert.Proof.Tile
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Count
variable {F : FTy → Type}

local notation "𝕄" => MT nD τ sig (HIx 1) (Elt F) ℕ UU ℕ

/-! ## Rules for the table's loads and the result's store -/

theorem read_hist16 {a : ℕ} (inb : ∀ x, (![a] : Fin 1 → ℕ) x + S16.size x ≤ S512.size x) (h : S512.Idx → BitVec 32) :
    (aHist).view.readAt (Elt F) (Rect.unit (s := S512) ![a] S16.size inb).toLoadRect h = hv h a := by
  funext x
  obtain ⟨k, rfl⟩ : ∃ k, x = ln k := ⟨lx x, (ln_lx x).symm⟩
  rw [View.readAt_apply]
  show h _ = h _
  congr 1
  funext y
  obtain rfl : y = 0 := Fin.eq_zero y
  apply Fin.ext
  have h0 : a + 16 ≤ 512 := inb 0
  have hk : (a + k.val) % 512 = a + k.val := Nat.mod_eq_of_lt (by omega)
  show a + 1 * k.val = (a + k.val) % 512
  rw [hk, one_mul]

/-- The result row with `w` in cell `s`. -/
def putRes (r : S80.Idx → BitVec 32) (s : ℕ) (w : BitVec 32) : S80.Idx → BitVec 32 := fun x => if (x 0).val = s then w else r x

section
variable [FloatOps F]
variable (d : Dev nD) (L : grid0.Coords)

/-- A load of sixteen cells of the table. -/
theorem wp_hl {α : Type} {Q : α → sProp 𝕄} {a : ℕ} {inb : ∀ x, (![a] : Fin 1 → ℕ) x + S16.size x ≤ S512.size x}
    {hl : (aHist).view.LoadsAt (Rect.unit (s := S512) ![a] S16.size inb).toLoadRect}
    {k : (S16.Idx → BitVec 32) → Prog (TpuEff nD τ sig (Elt F) Λ₀ (.scVector (cV L) (jV L))) α}
    (h : Buf (Elt F) (aHist.view.loc (VT d L))) :
    (aHist.view.loc (VT d L) ↦{fullShare} h : sProp 𝕄)
      ⊢ iprop(((aHist.view.loc (VT d L) ↦{fullShare} h) -∗ wp frame (wpE (defs₀ (F := F)) 𝒱₀ (VT d L) none) Set.univ (k (hv h a)) Q)
        -∗ wp frame (wpE (defs₀ (F := F)) 𝒱₀ (VT d L) none) Set.univ
          (.op (.load aHist (Rect.unit (s := S512) ![a] S16.size inb).toLoadRect hl) k) Q) := by
  iintro H Hk
  iapply (wp_load 𝒱₀ (VT d L) none Set.univ (m := aHist) (S := Finset.univ) (Finset.subset_univ _)) $$ H
  rw [read_hist16 (F := F) inb h]
  iexact Hk

theorem storeIdx_one (r : S80.Idx → BitVec 32) (w : BitVec 32) (v : IVec S16 32) (mask : IVec S16 1)
    (h : ∀ a x, ((![broadcast S16 w] : Fin 1 → IVec S16 32) a x).toNat < S80.size a)
    (hm : ∀ k : Fin 16, mask (ln k) = 1 ↔ k = 15) :
    (storeIdx (F := F) (s := S80) (e := .i32) (d := ![16]) r (![broadcast S16 w] : Fin 1 → IVec S16 32) v mask false h : S80.Idx → BitVec 32)
      = putRes r w.toNat (v (ln 15)) := by
  have key : ∀ (l : List (Fin 16)) (g : S80.Idx → BitVec 32),
      (l.foldl (fun (g : S80.Idx → BitVec 32) (k : Fin 16) =>
        if mask (ln k) = 1 then
          fun j => if (∀ a, (j a).val = (idxAt (s := S80) (![broadcast S16 w] : Fin 1 → IVec S16 32) h (ln k) a).val) then v (ln k) else g j
        else g) g)
      = if 15 ∈ l then putRes g w.toNat (v (ln 15)) else g := by
    intro l
    induction l with
    | nil => intro g; rfl
    | cons k l ih =>
      intro g
      rw [List.foldl_cons, ih]
      by_cases hk : k = 15
      · subst hk
        have e : (fun j : S80.Idx => if (∀ a, (j a).val = (idxAt (s := S80) (![broadcast S16 w] : Fin 1 → IVec S16 32) h (ln 15) a).val) then v (ln 15) else g j)
            = putRes g w.toNat (v (ln 15)) := by
          funext j
          unfold putRes
          by_cases hj : (j 0).val = w.toNat
          · rw [if_pos hj, if_pos fun a => by obtain rfl : a = 0 := Fin.eq_zero a; exact hj]
          · rw [if_neg hj, if_neg fun hh => hj (hh 0)]
        rw [if_pos ((hm 15).2 rfl), e, if_pos (List.mem_cons_self ..)]
        split_ifs
        · funext j; unfold putRes; split_ifs <;> rfl
        · rfl
      · have : ¬ mask (ln k) = 1 := fun hh => hk ((hm k).1 hh)
        rw [if_neg this]
        simp only [List.mem_cons, Ne.symm hk, false_or]
  refine Eq.trans (b := if (15 : Fin 16) ∈ List.finRange 16 then putRes r w.toNat (v (ln 15)) else r) ?_ ?_
  · refine Eq.trans ?_ (key (List.finRange 16) r)
    unfold storeIdx
    simp only [Bool.false_eq_true, if_false]
    rfl
  rw [if_pos (List.mem_finRange _)]

theorem pts_res_access (f : Buf (Elt F) (aRes.view.loc (VT d L))) :
    (((aRes).access (.whole S80)).loc (VT d L) ↦[((aRes).access (.whole S80)).set]{fullShare} f : sProp 𝕄)
      = aRes.view.loc (VT d L) ↦{fullShare} f := by
  exact congrArg (fun S => (aRes.view.loc (VT d L) ↦[S]{fullShare} f : sProp 𝕄)) (Memref.set_access_whole cc0_scratch2)

theorem write_res (f w : Buf (Elt F) (aRes.view.loc (VT d L))) :
    ((aRes).access (.whole S80)).write (Elt F) f w Finset.univ = w := by
  exact Memref.write_access_whole_univ (Elt F) cc0_scratch2 f w

theorem read_res (f : Buf (Elt F) (aRes.view.loc (VT d L))) :
    ((aRes).access (.whole S80)).read (Elt F) f = f := by
  exact Memref.read_access_whole (Elt F) cc0_scratch2 f

/-- The store of lane fifteen into the result row. -/
theorem wp_res {α : Type} {Q : α → sProp 𝕄} {w : BitVec 32} {v : IVec S16 32} {mask : IVec S16 1}
    {P : Prop} {dec : Decidable P} {hix : P → ∀ a x, ((![broadcast S16 w] : Fin 1 → IVec S16 32) a x).toNat < S80.size a}
    {hs : ((aRes).access (.whole S80)).Stores Finset.univ}
    {k : PUnit → Prog (TpuEff nD τ sig (Elt F) Λ₀ (.scVector (cV L) (jV L))) α}
    (hP : P = ∀ (a : Fin 1) x, ((![broadcast S16 w] : Fin 1 → IVec S16 32) a x).toNat < S80.size a)
    (r : Buf (Elt F) (aRes.view.loc (VT d L))) (hw : w.toNat < 80) (hm : ∀ k : Fin 16, mask (ln k) = 1 ↔ k = 15) :
    (aRes.view.loc (VT d L) ↦{fullShare} r : sProp 𝕄)
      ⊢ iprop(((aRes.view.loc (VT d L) ↦{fullShare} (putRes r w.toNat (v (ln 15)) : Buf (Elt F) (aRes.view.loc (VT d L)))) -∗
          wp frame (wpE (defs₀ (F := F)) 𝒱₀ (VT d L) none) Set.univ (k ⟨⟩) Q)
        -∗ wp frame (wpE (defs₀ (F := F)) 𝒱₀ (VT d L) none) Set.univ
          (.op (TpuEff.assume P dec) fun u => SparseCore.vectorStoreIdx (F := F) aRes ![broadcast S16 w] v mask false (hix u.down) hs >>= k) Q) := by
  have hPP : P := hP.mpr fun a x => by obtain rfl : a = 0 := Fin.eq_zero a; exact hw
  iintro H Hk
  rw [wp_assume_of _ _ _ _ hPP]
  ihave H := (Entails.of_eq (pts_res_access (F := F) d L _).symm) $$ H
  iapply (SparseCore.wp_vectorStoreIdx 𝒱₀ (VT d L) none Set.univ (base := aRes)) $$ H
  iintro H
  ihave H := (Entails.of_eq (pts_res_access (F := F) d L _)) $$ H
  rw [write_res, read_res]
  ihave H := (Entails.of_eq (congrArg (fun g => (aRes.view.loc (VT d L) ↦{fullShare} g : sProp 𝕄)) (storeIdx_one (F := F) r w v mask (hix hPP) hm))) $$ H
  iapply Hk
  iexact H

/-- What trip `t` of the second loop adds to counter `c`. -/
def trip2 (fl : S12288.Idx → BitVec 32) (P Q : Prop) [Decidable P] [Decidable Q] (a b c : ℕ) : BitVec 32 :=
  (if P ∧ lval fl a = c then 1 else 0) + (if P ∧ lval fl (a + 128) = c then 4294967295#32 else 0)
    + (if Q ∧ lval fl (b - 1) = c then 1 else 0) + (if Q ∧ lval fl (b + 127) = c then 4294967295#32 else 0)
    + ∑ j ∈ Finset.range 8, (- grp (lval fl) (a + 16 * j) c + grp (lval fl) (b + 16 * j) c)

theorem trip2_sum (x c1 c2 c3 c4 s0 a0 s1 a1 s2 a2 s3 a3 s4 a4 s5 a5 s6 a6 s7 a7 : BitVec 32) :
    x + c1 + c2 + c3 + c4 + -s0 + a0 + -s1 + a1 + -s2 + a2 + -s3 + a3 + -s4 + a4 + -s5 + a5 + -s6 + a6 + -s7 + a7
      = x + (c1 + c2 + c3 + c4 + (-s0 + a0 + (-s1 + a1) + (-s2 + a2) + (-s3 + a3) + (-s4 + a4) + (-s5 + a5) + (-s6 + a6) + (-s7 + a7))) := by
  abel

theorem neg_counts (v : IVec S16 32) (x : S16.Idx) : subi (broadcast S16 0#32) v x = - v x := BitVec.zero_sub _

theorem slot_toNat : ∀ t : Fin k0_t2_loop.trips,
    (Scalar.addi (Scalar.addi 0#32 (Scalar.muli (Scf.iv 0#32 1#32 t) 1#32)) 1#32).toNat = t.val + 1 := by decide +kernel

theorem trips2 : k0_t2_loop.trips = 64 := by decide +kernel

set_option maxHeartbeats 2000000 in
theorem t2_trip (q : PosShare TreeShare) (fl : Buf (Elt F) (aLbl.view.loc (VT d L))) (hlt : ∀ x, (fl x).toNat < 128)
    (v28 v32 : BitVec 32) (v38 v40 : IVec S16 1) (v41 v42 v44 v45 v46 v47 v49 v51 v53 v55 v57 v59 v61 v63 : IVec S16 32)
    (h44 : Off v44 0) (h45 : Off v45 1) (h46 : Off v46 2) (h47 : Off v47 3) (h41 : ∀ x, v41 x = 1) (h42 : ∀ x, v42 x = 4294967295#32)
    (h38 : ∀ k : Fin 16, v38 (ln k) = 1 ↔ k = 15)
    (h49 : KeyOff v49 0) (h51 : KeyOff v51 1) (h53 : KeyOff v53 2) (h55 : KeyOff v55 3)
    (h57 : KeyOff v57 4) (h59 : KeyOff v59 5) (h61 : KeyOff v61 6) (h63 : KeyOff v63 7)
    (t : Fin k0_t2_loop.trips) (P R : Prop) [Decidable P] [Decidable R]
    (hP : ∀ k : Fin 16, k0_pay11 v28 v40 0#32 1#32 t (ln k) = 1 ↔ P ∧ k = 0)
    (hR : ∀ k : Fin 16, k0_pay12 v28 v38 0#32 1#32 t (ln k) = 1 ↔ R ∧ k = 15)
    (cnt : ℕ → BitVec 32) (N : ℕ → ℕ) (hN : ∀ c, N c ≤ 4096)
    (hcnt : ∀ c < 128, cnt c + trip2 fl P R (subAt L t) (addAt L t) c = BitVec.ofNat 32 (N c))
    (r : Buf (Elt F) (aRes.view.loc (VT d L))) :
    iprop((aLbl.view.loc (VT d L) ↦{q} fl) ∗ Hist d L cnt ∗ (aRes.view.loc (VT d L) ↦{fullShare} r))
      ⊢ wp frame (wpE (defs₀ (F := F)) 𝒱₀ (VT d L) none) Set.univ
        (k0_t2_body L aFlat (Memref.isWhole_whole _) aOut (Memref.isWhole_whole _) aLbl (Memref.isWhole_whole _) aHist (Memref.isWhole_whole _)
          aRes (Memref.isWhole_whole _) cc0_scoped0 cc0_scoped1 v28 v32 v38 v40 v41 v42 v44 v45 v46 v47 v49 v51 v53 v55 v57 v59 v61 v63 t ())
        fun _ => iprop((aLbl.view.loc (VT d L) ↦{q} fl : sProp 𝕄) ∗ Hist d L (fun c => BitVec.ofNat 32 (N c))
          ∗ (aRes.view.loc (VT d L) ↦{fullShare} (putRes r (t.val + 1) (BitVec.ofNat 32 (mode N)) : Buf (Elt F) (aRes.view.loc (VT d L))))) := by
  unfold k0_t2_body
  simp only [k0_part5_eq_skeleton, k0_part6_eq_skeleton, k0_part7_eq_skeleton, k0_part8_eq_skeleton, k0_part9_eq_skeleton, k0_part10_eq_skeleton]
  unfold k0_part5_skel k0_part6_skel k0_part7_skel k0_part8_skel k0_part9_skel k0_part10_skel
  simp only [Prog.lift, Prog.bind_op, Prog.bind_ret, Prog.pure_eq_ret, Prog.bind_assoc]
  iintro ⟨Hl, Hh, Hr⟩
  iapply (wp_lbl (F := F) d L fl) $$ Hl
  iintro %v225 %h225 Hl
  iapply (wp_lbl (F := F) d L fl) $$ Hl
  iintro %v228 %h228 Hl
  iapply (wp_lbl (F := F) d L fl) $$ Hl
  iintro %v231 %h231 Hl
  iapply (wp_lbl (F := F) d L fl) $$ Hl
  iintro %v235 %h235 Hl
  iapply (wp_count (F := F) d L (hix := k0_idx12_inb _) rfl (p := 0) (by decide) h44 h225 hlt _ (fun c => gain_lane v225 v41 _ 0 P hP c)) $$ Hh
  iintro Hh
  iapply (wp_count (F := F) d L (hix := k0_idx13_inb _) rfl (p := 1) (by decide) h45 h228 hlt _ (fun c => gain_lane v228 v42 _ 0 P hP c)) $$ Hh
  iintro Hh
  iapply (wp_count (F := F) d L (hix := k0_idx14_inb _) rfl (p := 2) (by decide) h46 h231 hlt _ (fun c => gain_lane v231 v41 _ 15 R hR c)) $$ Hh
  iintro Hh
  iapply (wp_count (F := F) d L (hix := k0_idx15_inb _) rfl (p := 3) (by decide) h47 h235 hlt _ (fun c => gain_lane v235 v42 _ 15 R hR c)) $$ Hh
  iintro Hh
  iapply (wp_lbl (F := F) d L fl) $$ Hl
  iintro %v261 %h261 Hl
  iapply (wp_lbl (F := F) d L fl) $$ Hl
  iintro %v263 %h263 Hl
  iapply (wp_lbl (F := F) d L fl) $$ Hl
  iintro %v265 %h265 Hl
  iapply (wp_lbl (F := F) d L fl) $$ Hl
  iintro %v267 %h267 Hl
  iapply (wp_lbl (F := F) d L fl) $$ Hl
  iintro %v269 %h269 Hl
  iapply (wp_lbl (F := F) d L fl) $$ Hl
  iintro %v271 %h271 Hl
  iapply (wp_lbl (F := F) d L fl) $$ Hl
  iintro %v273 %h273 Hl
  iapply (wp_lbl (F := F) d L fl) $$ Hl
  iintro %v275 %h275 Hl
  iapply (wp_lbl (F := F) d L fl) $$ Hl
  iintro %v277 %h277 Hl
  iapply (wp_lbl (F := F) d L fl) $$ Hl
  iintro %v279 %h279 Hl
  iapply (wp_lbl (F := F) d L fl) $$ Hl
  iintro %v281 %h281 Hl
  iapply (wp_lbl (F := F) d L fl) $$ Hl
  iintro %v283 %h283 Hl
  iapply (wp_lbl (F := F) d L fl) $$ Hl
  iintro %v285 %h285 Hl
  iapply (wp_lbl (F := F) d L fl) $$ Hl
  iintro %v287 %h287 Hl
  iapply (wp_lbl (F := F) d L fl) $$ Hl
  iintro %v289 %h289 Hl
  iapply (wp_lbl (F := F) d L fl) $$ Hl
  iintro %v291 %h291 Hl
  iapply (wp_count (F := F) d L (hix := k0_idx16_inb _) rfl (p := 0) (by decide) h44 h261 hlt _ (fun c => (gain_neg v261 _ _ _ (neg_counts _) c).trans (congrArg _ ((gain_scanCount v261 _ ones c).trans (h261.occ c))))) $$ Hh
  iintro Hh
  iapply (wp_count (F := F) d L (hix := k0_idx17_inb _) rfl (p := 1) (by decide) h45 h263 hlt _ (fun c => (gain_scanCount v263 _ ones c).trans (h263.occ c))) $$ Hh
  iintro Hh
  iapply (wp_count (F := F) d L (hix := k0_idx18_inb _) rfl (p := 2) (by decide) h46 h265 hlt _ (fun c => (gain_neg v265 _ _ _ (neg_counts _) c).trans (congrArg _ ((gain_scanCount v265 _ ones c).trans (h265.occ c))))) $$ Hh
  iintro Hh
  iapply (wp_count (F := F) d L (hix := k0_idx19_inb _) rfl (p := 3) (by decide) h47 h267 hlt _ (fun c => (gain_scanCount v267 _ ones c).trans (h267.occ c))) $$ Hh
  iintro Hh
  iapply (wp_count (F := F) d L (hix := k0_idx20_inb _) rfl (p := 0) (by decide) h44 h269 hlt _ (fun c => (gain_neg v269 _ _ _ (neg_counts _) c).trans (congrArg _ ((gain_scanCount v269 _ ones c).trans (h269.occ c))))) $$ Hh
  iintro Hh
  iapply (wp_count (F := F) d L (hix := k0_idx21_inb _) rfl (p := 1) (by decide) h45 h271 hlt _ (fun c => (gain_scanCount v271 _ ones c).trans (h271.occ c))) $$ Hh
  iintro Hh
  iapply (wp_count (F := F) d L (hix := k0_idx22_inb _) rfl (p := 2) (by decide) h46 h273 hlt _ (fun c => (gain_neg v273 _ _ _ (neg_counts _) c).trans (congrArg _ ((gain_scanCount v273 _ ones c).trans (h273.occ c))))) $$ Hh
  iintro Hh
  iapply (wp_count (F := F) d L (hix := k0_idx23_inb _) rfl (p := 3) (by decide) h47 h275 hlt _ (fun c => (gain_scanCount v275 _ ones c).trans (h275.occ c))) $$ Hh
  iintro Hh
  iapply (wp_count (F := F) d L (hix := k0_idx24_inb _) rfl (p := 0) (by decide) h44 h277 hlt _ (fun c => (gain_neg v277 _ _ _ (neg_counts _) c).trans (congrArg _ ((gain_scanCount v277 _ ones c).trans (h277.occ c))))) $$ Hh
  iintro Hh
  iapply (wp_count (F := F) d L (hix := k0_idx25_inb _) rfl (p := 1) (by decide) h45 h279 hlt _ (fun c => (gain_scanCount v279 _ ones c).trans (h279.occ c))) $$ Hh
  iintro Hh
  iapply (wp_count (F := F) d L (hix := k0_idx26_inb _) rfl (p := 2) (by decide) h46 h281 hlt _ (fun c => (gain_neg v281 _ _ _ (neg_counts _) c).trans (congrArg _ ((gain_scanCount v281 _ ones c).trans (h281.occ c))))) $$ Hh
  iintro Hh
  iapply (wp_count (F := F) d L (hix := k0_idx27_inb _) rfl (p := 3) (by decide) h47 h283 hlt _ (fun c => (gain_scanCount v283 _ ones c).trans (h283.occ c))) $$ Hh
  iintro Hh
  iapply (wp_count (F := F) d L (hix := k0_idx28_inb _) rfl (p := 0) (by decide) h44 h285 hlt _ (fun c => (gain_neg v285 _ _ _ (neg_counts _) c).trans (congrArg _ ((gain_scanCount v285 _ ones c).trans (h285.occ c))))) $$ Hh
  iintro Hh
  iapply (wp_count (F := F) d L (hix := k0_idx29_inb _) rfl (p := 1) (by decide) h45 h287 hlt _ (fun c => (gain_scanCount v287 _ ones c).trans (h287.occ c))) $$ Hh
  iintro Hh
  iapply (wp_count (F := F) d L (hix := k0_idx30_inb _) rfl (p := 2) (by decide) h46 h289 hlt _ (fun c => (gain_neg v289 _ _ _ (neg_counts _) c).trans (congrArg _ ((gain_scanCount v289 _ ones c).trans (h289.occ c))))) $$ Hh
  iintro Hh
  iapply (wp_count (F := F) d L (hix := k0_idx31_inb _) rfl (p := 3) (by decide) h47 h291 hlt _ (fun c => (gain_scanCount v291 _ ones c).trans (h291.occ c))) $$ Hh
  iintro Hh
  unfold Hist
  icases Hh with ⟨%h, %hh, Hh⟩
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  iapply (wp_hl (F := F) d L h) $$ Hh
  iintro Hh
  have hw := slot_toNat t
  have ht : t.val < 64 := lt_of_lt_of_eq t.isLt trips2
  iapply (wp_res (F := F) d L (hix := k0_idx32_inb _) rfl r (by rw [hw]; omega) h38) $$ Hr
  iintro Hr
  rw [wp_ret]
  imodintro
  have hsum : ∀ c < 128, tot h c = BitVec.ofNat 32 (N c) := by
    intro c hc
    have e := hh c hc
    dsimp only at e
    rw [e, ← hcnt c hc]
    have hb := off5_eq L t
    have e1 : (v225 (ln 0)).toNat = lval fl (subAt L t) := congrArg BitVec.toNat (h225 0)
    have e2 : (v228 (ln 0)).toNat = lval fl (subAt L t + 128) := by rw [← off4_eq]; exact congrArg BitVec.toNat (h228 0)
    have e3 : (v231 (ln 15)).toNat = lval fl (addAt L t - 1) := by rw [← hb]; exact congrArg BitVec.toNat (h231 15)
    have e4 : (v235 (ln 15)).toNat = lval fl (addAt L t + 127) := by
      rw [show addAt L t + 127 = k0_off6 L t 0 + 15 by rw [off6_eq]]; exact congrArg BitVec.toNat (h235 15)
    rw [e1, e2, e3, e4, h41, h42, h41, h42]
    have a0 := off7_eq L t 0
    have a1 := off7_eq L t 1
    have a2 := off7_eq L t 2
    have a3 := off7_eq L t 3
    have a4 := off7_eq L t 4
    have a5 := off7_eq L t 5
    have a6 := off7_eq L t 6
    have a7 := off7_eq L t 7
    have b0 := off8_eq L t 0
    have b1 := off8_eq L t 1
    have b2 := off8_eq L t 2
    have b3 := off8_eq L t 3
    have b4 := off8_eq L t 4
    have b5 := off8_eq L t 5
    have b6 := off8_eq L t 6
    have b7 := off8_eq L t 7
    change k0_off7 L t 0#32 0 = subAt L t + 16 * 0 at a0
    change k0_off7 L t 16#32 0 = subAt L t + 16 * 1 at a1
    change k0_off7 L t 32#32 0 = subAt L t + 16 * 2 at a2
    change k0_off7 L t 48#32 0 = subAt L t + 16 * 3 at a3
    change k0_off7 L t 64#32 0 = subAt L t + 16 * 4 at a4
    change k0_off7 L t 80#32 0 = subAt L t + 16 * 5 at a5
    change k0_off7 L t 96#32 0 = subAt L t + 16 * 6 at a6
    change k0_off7 L t 112#32 0 = subAt L t + 16 * 7 at a7
    change k0_off8 L t 0#32 0 = addAt L t + 16 * 0 at b0
    change k0_off8 L t 16#32 0 = addAt L t + 16 * 1 at b1
    change k0_off8 L t 32#32 0 = addAt L t + 16 * 2 at b2
    change k0_off8 L t 48#32 0 = addAt L t + 16 * 3 at b3
    change k0_off8 L t 64#32 0 = addAt L t + 16 * 4 at b4
    change k0_off8 L t 80#32 0 = addAt L t + 16 * 5 at b5
    change k0_off8 L t 96#32 0 = addAt L t + 16 * 6 at b6
    change k0_off8 L t 112#32 0 = addAt L t + 16 * 7 at b7
    rw [a0, a1, a2, a3, a4, a5, a6, a7, b0, b1, b2, b3, b4, b5, b6, b7]
    unfold trip2
    simp only [Finset.sum_range_succ, Finset.sum_range_zero, zero_add]
    exact trip2_sum _ _ _ _ _ _ _ _ _ _ _ _ _ _ _ _ _ _ _ _ _
  isplitl [Hl]; · iexact Hl
  isplitl [Hh]
  · iexists h
    isplitr
    · ipureintro; exact hsum
    · iexact Hh
  · have ev := bestv_last hsum hN h49 h51 h53 h55 h57 h59 h61 h63
    rw [hw, ← ev]
    iexact Hr

end
end Cert.Proof.Tile
end
-- ==== Proof.Window.lean ====
module

public import proofs.«01_k».proof.Proof.T2

/-!
# The windows of a row

A row of labels mirrored at both ends, the counts of its windows, and what the two loops' trips do to them.
-/

@[expose] public section

noncomputable section
namespace Cert.Proof.Tile
open Cert.KernelIdeal Cert.KernelIdeal.Gen
open Idealize.ShloMosaic
open Cert.Proof.Count

/-- Place `p` of the mirrored row. -/
def mir (G : ℕ → ℕ) (p : ℕ) : ℕ := if p < 2048 then G (2048 - p) else if p < 34816 then G (p - 2048) else G (67582 - p)

/-- How many of the 4096 places of window `t` hold label `c`. -/
def wcount (G : ℕ → ℕ) (t c : ℕ) : ℕ := ∑ p ∈ Finset.range 4096, if mir G (128 * t + p) = c then 1 else 0

theorem wcount_le (G : ℕ → ℕ) (t c : ℕ) : wcount G t c ≤ 4096 := by
  unfold wcount
  calc _ ≤ ∑ p ∈ Finset.range 4096, 1 := Finset.sum_le_sum fun p _ => by split_ifs <;> omega
    _ = 4096 := by simp

/-- One where a label is `c`. -/
def ind (x c : ℕ) : BitVec 32 := if x = c then 1 else 0

theorem wcount_bv (G : ℕ → ℕ) (t c : ℕ) : BitVec.ofNat 32 (wcount G t c) = ∑ p ∈ Finset.range 4096, ind (mir G (128 * t + p)) c := by
  have e : ∀ (n : ℕ) (f : ℕ → ℕ), BitVec.ofNat 32 (∑ p ∈ Finset.range n, if f p = c then 1 else 0) = ∑ p ∈ Finset.range n, ind (f p) c := by
    intro n f
    induction n with
    | zero => rfl
    | succ n ih =>
      rw [Finset.sum_range_succ, Finset.sum_range_succ, BitVec.ofNat_add, ih]
      congr 1
      unfold ind
      split_ifs <;> rfl
  exact e 4096 _

/-- The next window: the first block leaves, a block enters. -/
theorem slide (f : ℕ → BitVec 32) : ∑ p ∈ Finset.range 4096, f (128 + p)
    = ∑ p ∈ Finset.range 4096, f p + (- ∑ p ∈ Finset.range 128, f p + ∑ p ∈ Finset.range 128, f (4096 + p)) := by
  have h1 := Finset.sum_range_add f 128 4096
  have h2 := Finset.sum_range_add f 4096 128
  rw [show 128 + 4096 = 4096 + 128 from rfl, h2] at h1
  rw [← add_left_cancel_iff (a := ∑ p ∈ Finset.range 128, f p), ← h1]
  abel

/-- Groups of sixteen, laid end to end. -/
theorem groups (f : ℕ → BitVec 32) (n : ℕ) : ∑ j ∈ Finset.range n, ∑ k : Fin 16, f (16 * j + k.val) = ∑ p ∈ Finset.range (16 * n), f p := by
  induction n with
  | zero => rw [Finset.sum_range_zero, Nat.mul_zero, Finset.sum_range_zero]
  | succ n ih => rw [Finset.sum_range_succ, ih, Nat.mul_succ, Finset.sum_range_add, Finset.sum_range fun k => f (16 * n + k)]

theorem groups_grp (L : ℕ → ℕ) (a c n : ℕ) : ∑ j ∈ Finset.range n, grp L (a + 16 * j) c = ∑ p ∈ Finset.range (16 * n), ind (L (a + p)) c := by
  rw [← groups (fun p => ind (L (a + p)) c)]
  refine Finset.sum_congr rfl fun j _ => ?_
  unfold grp ind
  simp only [Nat.add_assoc]

/-- A block read backwards, one place on. -/
theorem back_up (g : ℕ → BitVec 32) (a n : ℕ) : ∑ p ∈ Finset.range n, g (a + n - p) = ∑ p ∈ Finset.range n, g (a + p) + (- g a + g (a + n)) := by
  have h1 : ∑ p ∈ Finset.range n, g (a + n - p) = ∑ p ∈ Finset.range n, g (a + 1 + p) := by
    rw [← Finset.sum_range_reflect]
    refine Finset.sum_congr rfl fun p hp => ?_
    have := Finset.mem_range.1 hp
    congr 1
    omega
  have h2 := Finset.sum_range_succ' (fun p => g (a + p)) n
  have h3 := Finset.sum_range_succ (fun p => g (a + p)) n
  rw [h3] at h2
  rw [h1]
  simp only [Nat.add_zero] at h2
  rw [show ∑ p ∈ Finset.range n, g (a + 1 + p) = ∑ p ∈ Finset.range n, g (a + (p + 1)) from
    Finset.sum_congr rfl fun p _ => by congr 1; omega]
  rw [← add_right_cancel_iff (a := g a), ← h2]
  abel

/-- What a trip of the second loop adds: the window slides. -/
theorem trip2_slide {fl : S12288.Idx → BitVec 32} {G : ℕ → ℕ} {q t a b : ℕ} (hq : q < 4) (ht : t < 64)
    (hfl : ∀ n < 12288, lval fl n = G (sOff q + n))
    (ha : a = if 64 * q + t < 16 then 1920 - 128 * (64 * q + t) else 128 * (64 * q + t) - 2048 - sOff q)
    (hb : b = if 272 ≤ 64 * q + t + 32 then 46976 - 128 * (64 * q + t + 32) else 128 * (64 * q + t + 32) - 2048 - sOff q) (c : ℕ) :
    BitVec.ofNat 32 (wcount G (64 * q + t) c) + trip2 fl (64 * q + t < 16) (272 ≤ 64 * q + t + 32) a b c
      = BitVec.ofNat 32 (wcount G (64 * q + t + 1) c) := by
  rw [wcount_bv, wcount_bv]
  have hs := slide (fun p => ind (mir G (128 * (64 * q + t) + p)) c)
  have e1 : ∀ p, 128 * (64 * q + t) + (128 + p) = 128 * (64 * q + t + 1) + p := fun p => by omega
  have e2 : ∀ p, 128 * (64 * q + t) + (4096 + p) = 128 * (64 * q + t + 32) + p := fun p => by omega
  simp only [e1, e2] at hs
  rw [hs]
  refine congrArg (_ + ·) ?_
  unfold trip2
  rw [Finset.sum_add_distrib, Finset.sum_neg_distrib, groups_grp, groups_grp]
  have hsub : - ∑ p ∈ Finset.range 128, ind (mir G (128 * (64 * q + t) + p)) c
      = (if 64 * q + t < 16 ∧ lval fl a = c then 1 else 0) + (if 64 * q + t < 16 ∧ lval fl (a + 128) = c then 4294967295#32 else 0)
        + - ∑ p ∈ Finset.range (16 * 8), ind (lval fl (a + p)) c := by
    by_cases h : 64 * q + t < 16
    · have hq0 : q = 0 := by omega
      subst hq0
      rw [if_pos h] at ha
      have h1 : ∑ p ∈ Finset.range 128, ind (mir G (128 * (64 * 0 + t) + p)) c = ∑ p ∈ Finset.range 128, ind (lval fl (a + 128 - p)) c := by
        refine Finset.sum_congr rfl fun p hp => ?_
        have hp := Finset.mem_range.1 hp
        rw [hfl _ (by omega), mir, if_pos (by omega)]
        refine congrArg (fun n => ind (G n) c) ?_
        unfold sOff; omega
      rw [h1, back_up (fun n => ind (lval fl n) c)]
      simp only [h, true_and]
      unfold ind
      have hneg : ∀ P [Decidable P], (if P then 4294967295#32 else 0) = - (if P then 1 else (0 : BitVec 32)) := by
        intro P _; split_ifs <;> rfl
      rw [hneg]
      show _ = _ + - ∑ p ∈ Finset.range 128, _
      abel
    · rw [if_neg h] at ha
      simp only [h, false_and, if_false, zero_add]
      refine congrArg (- ·) ?_
      refine Finset.sum_congr rfl fun p hp => ?_
      have hp := Finset.mem_range.1 hp
      have : sOff q = 8192 * q - 2048 ∨ sOff q = 20480 ∧ q = 3 := by unfold sOff; omega
      rw [hfl _ (by omega), mir, if_neg (by omega), if_pos (by omega)]
      refine congrArg (fun n => ind (G n) c) ?_
      omega
  have hadd : ∑ p ∈ Finset.range 128, ind (mir G (128 * (64 * q + t + 32) + p)) c
      = (if 272 ≤ 64 * q + t + 32 ∧ lval fl (b - 1) = c then 1 else 0) + (if 272 ≤ 64 * q + t + 32 ∧ lval fl (b + 127) = c then 4294967295#32 else 0)
        + ∑ p ∈ Finset.range (16 * 8), ind (lval fl (b + p)) c := by
    by_cases h : 272 ≤ 64 * q + t + 32
    · have hq0 : q = 3 := by omega
      subst hq0
      rw [if_pos h] at hb
      have h1 : ∑ p ∈ Finset.range 128, ind (mir G (128 * (64 * 3 + t + 32) + p)) c = ∑ p ∈ Finset.range 128, ind (lval fl (b - 2 + 128 - p)) c := by
        refine Finset.sum_congr rfl fun p hp => ?_
        have hp := Finset.mem_range.1 hp
        rw [hfl _ (by omega), mir, if_neg (by omega), if_neg (by omega)]
        refine congrArg (fun n => ind (G n) c) ?_
        unfold sOff; omega
      have h2 := back_up (fun n => ind (lval fl n) c) (b - 2) 128
      have h3 := back_up (fun n => ind (lval fl n) c) (b - 1) 128
      have h4 := Finset.sum_range_succ' (fun p => ind (lval fl (b - 2 + p)) c) 128
      have h5 := Finset.sum_range_succ (fun p => ind (lval fl (b - 2 + p)) c) 128
      have h6 := Finset.sum_range_succ' (fun p => ind (lval fl (b - 1 + p)) c) 128
      have h7 := Finset.sum_range_succ (fun p => ind (lval fl (b - 1 + p)) c) 128
      have i1 : ∀ p, b - 2 + (p + 1) = b - 1 + p := fun p => by omega
      have i2 : ∀ p, b - 1 + (p + 1) = b + p := fun p => by omega
      simp only [i1, i2, Nat.add_zero] at h4 h6
      rw [h5] at h4
      rw [h7] at h6
      rw [h1, h2]
      simp only [h, true_and]
      have hneg : ∀ P [Decidable P], (if P then 4294967295#32 else 0) = - (if P then 1 else (0 : BitVec 32)) := by
        intro P _; split_ifs <;> rfl
      rw [hneg]
      have i3 : b - 2 + 128 = b + 126 := by omega
      have i4 : b - 1 + 128 = b + 127 := by omega
      rw [i3] at h4 ⊢
      rw [i4] at h6
      change _ = ind (lval fl (b - 1)) c + - ind (lval fl (b + 127)) c + ∑ p ∈ Finset.range 128, ind (lval fl (b + p)) c
      have h8 := eq_sub_of_add_eq h4
      have h9 := eq_sub_of_add_eq h6.symm
      rw [h9, h8]
      abel
    · rw [if_neg h] at hb
      simp only [h, false_and, if_false, zero_add]
      refine Finset.sum_congr rfl fun p hp => ?_
      have hp := Finset.mem_range.1 hp
      have : sOff q = 8192 * q - 2048 ∨ sOff q = 20480 ∧ q = 3 := by unfold sOff; omega
      rw [hfl _ (by omega), mir, if_neg (by omega), if_pos (by omega)]
      refine congrArg (fun n => ind (G n) c) ?_
      omega
  rw [hsub, hadd]
  abel

/-- The first window: the groups the first loop counts, with the corrections at the row's start. -/
theorem first_window {fl : S12288.Idx → BitVec 32} {G : ℕ → ℕ} {q : ℕ} (hq : q < 4)
    (hfl : ∀ n < 12288, lval fl n = G (sOff q + n)) (c : ℕ) :
    ∑ t ∈ Finset.range 32, ∑ j ∈ Finset.range 8,
        grp (lval fl) (if q = 0 then 16 * ((8 * t + j) % 128) else 8192 * q - 2048 - sOff q + 16 * (8 * t + j)) c
      + (if q = 0 ∧ lval fl 0 = c then 4294967295#32 else 0) + (if q = 0 ∧ lval fl 2048 = c then 1 else 0)
      = BitVec.ofNat 32 (wcount G (64 * q) c) := by
  rw [wcount_bv]
  have two : ∀ (f : ℕ → BitVec 32) (n : ℕ), ∑ t ∈ Finset.range n, ∑ j ∈ Finset.range 8, f (8 * t + j) = ∑ g ∈ Finset.range (8 * n), f g := by
    intro f n
    induction n with
    | zero => rw [Finset.sum_range_zero, Nat.mul_zero, Finset.sum_range_zero]
    | succ n ih => rw [Finset.sum_range_succ, ih, Nat.mul_succ, Finset.sum_range_add]
  rw [two (fun g => grp (lval fl) (if q = 0 then 16 * (g % 128) else 8192 * q - 2048 - sOff q + 16 * g) c)]
  by_cases h : q = 0
  · subst h
    simp only [true_and, if_true]
    rw [show 8 * 32 = 128 + 128 from rfl, Finset.sum_range_add]
    have e1 : ∑ g ∈ Finset.range 128, grp (lval fl) (16 * (g % 128)) c = ∑ p ∈ Finset.range 2048, ind (lval fl (0 + p)) c := by
      rw [← groups_grp (lval fl) 0 c 128]
      refine Finset.sum_congr rfl fun g hg => ?_
      rw [Nat.mod_eq_of_lt (Finset.mem_range.1 hg), Nat.zero_add]
    have e2 : ∑ g ∈ Finset.range 128, grp (lval fl) (16 * ((128 + g) % 128)) c = ∑ p ∈ Finset.range 2048, ind (lval fl (0 + p)) c := by
      rw [← e1]
      refine Finset.sum_congr rfl fun g hg => ?_
      rw [Nat.add_mod_left]
    rw [e1, e2, show 4096 = 2048 + 2048 from rfl, Finset.sum_range_add (fun p => ind (mir G (128 * (64 * 0) + p)) c)]
    have e3 : ∑ p ∈ Finset.range 2048, ind (mir G (128 * (64 * 0) + p)) c = ∑ p ∈ Finset.range 2048, ind (lval fl (0 + 2048 - p)) c := by
      refine Finset.sum_congr rfl fun p hp => ?_
      have hp := Finset.mem_range.1 hp
      rw [hfl _ (by omega), mir, if_pos (by omega)]
      refine congrArg (fun n => ind (G n) c) ?_
      unfold sOff; omega
    have e4 : ∑ p ∈ Finset.range 2048, ind (mir G (128 * (64 * 0) + (2048 + p))) c = ∑ p ∈ Finset.range 2048, ind (lval fl (0 + p)) c := by
      refine Finset.sum_congr rfl fun p hp => ?_
      have hp := Finset.mem_range.1 hp
      rw [hfl _ (by omega), mir, if_neg (by omega), if_pos (by omega)]
      refine congrArg (fun n => ind (G n) c) ?_
      unfold sOff; omega
    rw [e3, e4, back_up (fun n => ind (lval fl n) c)]
    have hneg : ∀ P [Decidable P], (if P then 4294967295#32 else 0) = - (if P then 1 else (0 : BitVec 32)) := by
      intro P _; split_ifs <;> rfl
    rw [hneg]
    change _ + - ind (lval fl 0) c + ind (lval fl 2048) c = _
    simp only [Nat.zero_add]
    abel
  · simp only [h, false_and, if_false, add_zero]
    rw [groups_grp]
    refine Finset.sum_congr rfl fun p hp => ?_
    have hp := Finset.mem_range.1 hp
    have : sOff q = 8192 * q - 2048 ∨ sOff q = 20480 ∧ q = 3 := by unfold sOff; omega
    rw [hfl _ (by omega), mir, if_neg (by omega), if_pos (by omega)]
    refine congrArg (fun n => ind (G n) c) ?_
    omega

end Cert.Proof.Tile
end
-- ==== Proof.Body.lean ====
module

public import proofs.«01_k».proof.Proof.T2
public import proofs.«01_k».proof.Proof.Window

/-!
# The stretches of the body

The table is cleared, the first window is counted, its most frequent label is read off.
-/

@[expose] public section

noncomputable section
namespace Cert.Proof.Tile
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Count
variable {F : FTy → Type}

local notation "𝕄" => MT nD τ sig (HIx 1) (Elt F) ℕ UU ℕ

section
variable [FloatOps F]
variable (d : Dev nD) (L : grid0.Coords)

/-! ## Clearing the table -/

/-- The table's first `n` cells are zero. -/
def Zt (n : ℕ) : sProp 𝕄 :=
  iprop(∃ h : Buf (Elt F) (aHist.view.loc (VT d L)), ⌜∀ x : S512.Idx, (x 0).val < n → h x = 0#32⌝ ∗ aHist.view.loc (VT d L) ↦{fullShare} h)

theorem zero_write {a b : ℕ} (hb : b = a + 16) {inb : ∀ x, (![a] : Fin 1 → ℕ) x + S16.size x ≤ S512.size x} (z : IVec S16 32) (hz : ∀ x, z x = 0#32)
    (h : Buf (Elt F) (aHist.view.loc (VT d L))) (hh : ∀ x : S512.Idx, (x 0).val < a → h x = 0#32) (x : S512.Idx) (hx : (x 0).val < b) :
    ((aHist).access (Rect.unit (s := S512) ![a] S16.size inb)).write (Elt F) h z Finset.univ x = 0#32 := by
  set r := Rect.unit (s := S512) ![a] S16.size inb with hr
  by_cases hm : x ∈ r.set
  · obtain ⟨y, rfl⟩ := r.exists_idx_of_mem hm
    exact (View.read_slice_write_emb (v := aHist.view) (Val := Elt F) r h z (Finset.mem_univ y)).trans (hz y)
  · refine (View.read_slice_write_of_not_mem (v := aHist.view) (Val := Elt F) r h z Finset.univ (by rwa [Rect.map_emb_univ])).trans (hh x ?_)
    by_contra hn
    refine hm ?_
    have hy : (x 0).val - a < 16 := by omega
    have hxy : r.emb (ln ⟨(x 0).val - a, hy⟩) = x := by
      funext y
      obtain rfl : y = 0 := Fin.eq_zero y
      apply Fin.ext
      show a + 1 * ((x 0).val - a) = (x 0).val
      omega
    rw [← hxy, ← Rect.map_emb_univ]
    exact Finset.mem_map_of_mem _ (Finset.mem_univ _)

theorem wp_zero {α : Type} {Q : α → sProp 𝕄} {a : ℕ} {inb : ∀ x, (![a] : Fin 1 → ℕ) x + S16.size x ≤ S512.size x}
    {hl : (aHist).view.LoadsAt (Rect.unit (s := S512) ![a] S16.size inb).toLoadRect} {z : IVec S16 32}
    {hx : ((aHist).access (Rect.unit (s := S512) ![a] S16.size inb)).Stores Finset.univ} {hm}
    {k : PUnit → Prog (TpuEff nD τ sig (Elt F) Λ₀ (.scVector (cV L) (jV L))) α} (b : ℕ) (hb : b = a + 16) (hz : ∀ x, z x = 0#32) :
    (Zt d L a : sProp 𝕄)
      ⊢ iprop((Zt d L b -∗ wp frame (wpE (defs₀ (F := F)) 𝒱₀ (VT d L) none) Set.univ (k ⟨⟩) Q)
        -∗ wp frame (wpE (defs₀ (F := F)) 𝒱₀ (VT d L) none) Set.univ
          (.op (.load aHist (Rect.unit (s := S512) ![a] S16.size inb).toLoadRect hl) fun _ =>
            .op (.store aHist (Rect.unit (s := S512) ![a] S16.size inb) z Finset.univ hx hm) k) Q) := by
  unfold Zt
  iintro ⟨%h, %hh, H⟩ Hk
  iapply (wp_load 𝒱₀ (VT d L) none Set.univ (m := aHist) (S := Finset.univ) (Finset.subset_univ _)) $$ H
  iintro H
  iapply (wp_store 𝒱₀ (VT d L) none Set.univ (m := aHist) (r := Rect.unit (s := S512) ![a] S16.size inb) (Mk := Finset.univ) (S := Finset.univ) (Finset.subset_univ _)) $$ H
  iintro H
  iapply Hk
  iexists _
  isplitr
  rotate_left
  · iexact H
  · ipureintro
    exact zero_write (F := F) d L hb z hz h hh

theorem zeros (x : S16.Idx) : k0_pay90 x = 0#32 := rfl

theorem part13_run :
    (Zt d L 48 : sProp 𝕄) ⊢ wp frame (wpE (defs₀ (F := F)) 𝒱₀ (VT d L) none) Set.univ
        (k0_part13 L aFlat (Memref.isWhole_whole _) aOut (Memref.isWhole_whole _) aLbl (Memref.isWhole_whole _) aHist (Memref.isWhole_whole _)
          aRes (Memref.isWhole_whole _) cc0_scoped0 cc0_scoped1 k0_pay90) fun _ => Zt d L 368 := by
  rw [k0_part13_eq_skeleton]; unfold k0_part13_skel
  simp only [Prog.lift, Prog.bind_op, Prog.bind_ret, Prog.pure_eq_ret]
  iintro H
  iapply (wp_zero (F := F) d L 64 (by rfl) zeros) $$ H
  iintro H
  iapply (wp_zero (F := F) d L 80 (by rfl) zeros) $$ H
  iintro H
  iapply (wp_zero (F := F) d L 96 (by rfl) zeros) $$ H
  iintro H
  iapply (wp_zero (F := F) d L 112 (by rfl) zeros) $$ H
  iintro H
  iapply (wp_zero (F := F) d L 128 (by rfl) zeros) $$ H
  iintro H
  iapply (wp_zero (F := F) d L 144 (by rfl) zeros) $$ H
  iintro H
  iapply (wp_zero (F := F) d L 160 (by rfl) zeros) $$ H
  iintro H
  iapply (wp_zero (F := F) d L 176 (by rfl) zeros) $$ H
  iintro H
  iapply (wp_zero (F := F) d L 192 (by rfl) zeros) $$ H
  iintro H
  iapply (wp_zero (F := F) d L 208 (by rfl) zeros) $$ H
  iintro H
  iapply (wp_zero (F := F) d L 224 (by rfl) zeros) $$ H
  iintro H
  iapply (wp_zero (F := F) d L 240 (by rfl) zeros) $$ H
  iintro H
  iapply (wp_zero (F := F) d L 256 (by rfl) zeros) $$ H
  iintro H
  iapply (wp_zero (F := F) d L 272 (by rfl) zeros) $$ H
  iintro H
  iapply (wp_zero (F := F) d L 288 (by rfl) zeros) $$ H
  iintro H
  iapply (wp_zero (F := F) d L 304 (by rfl) zeros) $$ H
  iintro H
  iapply (wp_zero (F := F) d L 320 (by rfl) zeros) $$ H
  iintro H
  iapply (wp_zero (F := F) d L 336 (by rfl) zeros) $$ H
  iintro H
  iapply (wp_zero (F := F) d L 352 (by rfl) zeros) $$ H
  iintro H
  iapply (wp_zero (F := F) d L 368 (by rfl) zeros) $$ H
  iintro H
  rw [wp_ret]; imodintro
  iexact H

theorem Zt_hist : (Zt d L 512 : sProp 𝕄) ⊢ Hist d L fun _ => 0#32 := by
  unfold Zt Hist
  iintro ⟨%h, %hh, H⟩
  iexists h
  isplitr
  · ipureintro
    intro c hc
    have e : ∀ x, h x = 0#32 := fun x => hh x (x 0).isLt
    unfold tot
    rw [e, e, e, e]; rfl
  · iexact H

/-! ## The first window's counts -/

theorem off44 : Off k0_pay78 0 := fun _ => rfl
theorem off45 : Off k0_pay79 1 := fun _ => rfl
theorem off46 : Off k0_pay80 2 := fun _ => rfl
theorem off47 : Off k0_pay81 3 := fun _ => rfl

theorem quar_lt : quar L < 4 := Nat.mod_lt _ (by decide)

theorem trips1 : k0_t1_loop.trips = 32 := by decide +kernel

/-- What trip `t` of the first loop adds, by the labels it reads. -/
def add1 (fl : S12288.Idx → BitVec 32) (q t c : ℕ) : BitVec 32 :=
  ∑ j ∈ Finset.range 8, grp (lval fl) (if q = 0 then 16 * ((8 * t + j) % 128) else 8192 * q - 2048 - sOff q + 16 * (8 * t + j)) c

theorem trip1_eq (fl : S12288.Idx → BitVec 32) (t : Fin k0_t1_loop.trips) (c : ℕ) : trip1 L fl t c = add1 fl (quar L) t.val c := by
  unfold trip1 add1
  refine Finset.sum_congr rfl fun j hj => ?_
  exact congrArg (fun a => grp (lval fl) a c) (off2_eq L t ⟨j, Finset.mem_range.1 hj⟩)

theorem pay107_vq (k : Fin 16) : k0_pay107 k0_pay75 (Scalar.cmpi .eq (vq L) 0#32) (ln k) = 1 ↔ quar L = 0 ∧ k = 0 := by
  rw [vq_eq]; exact pay107_iff ⟨quar L, quar_lt L⟩ k

theorem part14_run (q : PosShare TreeShare) (fl : Buf (Elt F) (aLbl.view.loc (VT d L))) (hlt : ∀ x, (fl x).toNat < 128)
    (G : ℕ → ℕ) (hfl : ∀ n < 12288, lval fl n = G (sOff (quar L) + n)) :
    iprop((aLbl.view.loc (VT d L) ↦{q} fl) ∗ Zt d L 368) ⊢ wp frame (wpE (defs₀ (F := F)) 𝒱₀ (VT d L) none) Set.univ
        (k0_part14 L aFlat (Memref.isWhole_whole _) aOut (Memref.isWhole_whole _) aLbl (Memref.isWhole_whole _) aHist (Memref.isWhole_whole _)
          aRes (Memref.isWhole_whole _) cc0_scoped0 cc0_scoped1 (vq L) (vs L) k0_pay75 k0_pay76 k0_pay77 (Scalar.cmpi .eq (vq L) 0#32) k0_pay78 k0_pay79 k0_pay80 k0_pay81 k0_pay90)
        fun v => iprop(∃ h : Buf (Elt F) (aHist.view.loc (VT d L)),
          ⌜(∀ c < 128, tot h c = BitVec.ofNat 32 (wcount G (64 * quar L) c)) ∧ v = k0_pay108 (F := F) (hv h 0) (hv h 128) (hv h 256) (hv h 384)⌝
            ∗ (aLbl.view.loc (VT d L) ↦{q} fl : sProp 𝕄) ∗ (aHist.view.loc (VT d L) ↦{fullShare} h)) := by
  rw [k0_part14_eq_skeleton]; unfold k0_part14_skel
  simp only [Prog.lift, Prog.bind_op, Prog.bind_ret, Prog.pure_eq_ret]
  iintro ⟨Hl, H⟩
  iapply (wp_zero (F := F) d L 384 (by rfl) zeros) $$ H
  iintro H
  iapply (wp_zero (F := F) d L 400 (by rfl) zeros) $$ H
  iintro H
  iapply (wp_zero (F := F) d L 416 (by rfl) zeros) $$ H
  iintro H
  iapply (wp_zero (F := F) d L 432 (by rfl) zeros) $$ H
  iintro H
  iapply (wp_zero (F := F) d L 448 (by rfl) zeros) $$ H
  iintro H
  iapply (wp_zero (F := F) d L 464 (by rfl) zeros) $$ H
  iintro H
  iapply (wp_zero (F := F) d L 480 (by rfl) zeros) $$ H
  iintro H
  iapply (wp_zero (F := F) d L 496 (by rfl) zeros) $$ H
  iintro H
  iapply (wp_zero (F := F) d L 512 (by rfl) zeros) $$ H
  iintro H
  ihave H := (Zt_hist (F := F) d L) $$ H
  iapply (Scf.wp_for_bind Idealize.ShloMosaic.frame (wpE (defs₀ (F := F)) 𝒱₀ (VT d L) none) Set.univ _ _ _ k0_t1_ok _ _
    (fun t _ => iprop((aLbl.view.loc (VT d L) ↦{q} fl : sProp 𝕄) ∗ Hist d L fun c => ∑ s ∈ Finset.range t, add1 fl (quar L) s c)) ?hb) $$ [Hl H]
  case hb =>
    intro t _
    refine (t1_trip d L q fl hlt _ _ _ _ _ _ _ _ _ _ _ _ off44 off45 off46 off47 _ t).trans (wp_mono _ _ _ fun _ => ?_)
    simp only [Finset.sum_range_succ, trip1_eq]
    exact .rfl
  · isplitl [Hl]; · iexact Hl
    simp only [Finset.sum_range_zero]
    iexact H
  iintro %_ ⟨Hl, H⟩
  rw [show Scf.trips k0_t1_loop.lb k0_t1_loop.ub k0_t1_loop.st = 32 from trips1]
  iapply (wp_lbl (F := F) d L fl) $$ Hl
  iintro %v103 %h103 Hl
  iapply (wp_lbl (F := F) d L fl) $$ Hl
  iintro %v104 %h104 Hl
  iapply (wp_count (F := F) d L (hix := k0_idx9_inb _) rfl (p := 0) (by decide) off44 h103 hlt _
    (fun c => gain_lane v103 k0_pay77 _ 0 (quar L = 0) (pay107_vq L) c)) $$ H
  iintro H
  iapply (wp_count (F := F) d L (hix := k0_idx10_inb _) rfl (p := 1) (by decide) off45 h104 hlt _
    (fun c => gain_lane v104 k0_pay76 _ 0 (quar L = 0) (pay107_vq L) c)) $$ H
  iintro H
  unfold Hist
  icases H with ⟨%h, %hh, H⟩
  iapply (wp_hl (F := F) d L h) $$ H; iintro H
  iapply (wp_hl (F := F) d L h) $$ H; iintro H
  iapply (wp_hl (F := F) d L h) $$ H; iintro H
  iapply (wp_hl (F := F) d L h) $$ H; iintro H
  rw [wp_ret]; imodintro
  iexists h
  isplitr
  · ipureintro
    refine ⟨fun c hc => ?_, rfl⟩
    rw [hh c hc, ← first_window (quar_lt L) hfl c]
    have e0 : (v103 (ln 0)).toNat = lval fl 0 := congrArg BitVec.toNat (h103 0)
    have e1 : (v104 (ln 0)).toNat = lval fl 2048 := congrArg BitVec.toNat (h104 0)
    rw [e0, e1]
    rfl
  isplitl [Hl]; · iexact Hl
  iexact H

theorem part15_run (v113 : IVec S16 32) (h : Buf (Elt F) (aHist.view.loc (VT d L))) :
    (aHist.view.loc (VT d L) ↦{fullShare} h : sProp 𝕄) ⊢ wp frame (wpE (defs₀ (F := F)) 𝒱₀ (VT d L) none) Set.univ
        (k0_part15 L aFlat (Memref.isWhole_whole _) aOut (Memref.isWhole_whole _) aLbl (Memref.isWhole_whole _) aHist (Memref.isWhole_whole _)
          aRes (Memref.isWhole_whole _) cc0_scoped0 cc0_scoped1 k0_pay82 k0_pay83 k0_pay84 k0_pay85 v113)
        fun v => iprop(⌜v = ⟨k0_pay109 (F := F) k0_pay82 k0_pay83 k0_pay84 k0_pay85 v113 (hv h 16) (hv h 144) (hv h 272) (hv h 400) (hv h 32) (hv h 160) (hv h 288) (hv h 416) (hv h 48) (hv h 176) (hv h 304) (hv h 432), k0_pay110 (F := F) (hv h 64) (hv h 192), hv h 320⟩⌝ ∗ (aHist.view.loc (VT d L) ↦{fullShare} h : sProp 𝕄)) := by
  rw [k0_part15_eq_skeleton]; unfold k0_part15_skel
  simp only [Prog.lift, Prog.bind_op, Prog.bind_ret, Prog.pure_eq_ret]
  iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  rw [wp_ret]; imodintro
  isplitr; · ipureintro; rfl
  iexact H

theorem part16_run (v149 v152 : IVec S16 32) (v153 : Vec F S16 .i32) (h : Buf (Elt F) (aHist.view.loc (VT d L))) :
    (aHist.view.loc (VT d L) ↦{fullShare} h : sProp 𝕄) ⊢ wp frame (wpE (defs₀ (F := F)) 𝒱₀ (VT d L) none) Set.univ
        (k0_part16 L aFlat (Memref.isWhole_whole _) aOut (Memref.isWhole_whole _) aLbl (Memref.isWhole_whole _) aHist (Memref.isWhole_whole _)
          aRes (Memref.isWhole_whole _) cc0_scoped0 cc0_scoped1 k0_pay86 k0_pay87 k0_pay88 k0_pay89 v149 v152 v153)
        fun v => iprop(⌜v = ⟨k0_pay111 (F := F) k0_pay86 k0_pay87 k0_pay88 k0_pay89 v149 v152 v153 (hv h 448) (hv h 80) (hv h 208) (hv h 336) (hv h 464) (hv h 96) (hv h 224) (hv h 352) (hv h 480) (hv h 112) (hv h 240) (hv h 368) (hv h 496), k0_pay112⟩⌝ ∗ (aHist.view.loc (VT d L) ↦{fullShare} h : sProp 𝕄)) := by
  rw [k0_part16_eq_skeleton]; unfold k0_part16_skel
  simp only [Prog.lift, Prog.bind_op, Prog.bind_ret, Prog.pure_eq_ret]
  iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  iapply (wp_hl (F := F) d L h) $$ H; iintro H
  rw [wp_ret]; imodintro
  isplitr; · ipureintro; rfl
  iexact H

/-- The label the first store writes. -/
theorem first_best (h : S512.Idx → BitVec 32) :
    k0_pay1 (k0_pay111 (F := F) k0_pay86 k0_pay87 k0_pay88 k0_pay89
      (k0_pay109 (F := F) k0_pay82 k0_pay83 k0_pay84 k0_pay85 (k0_pay108 (F := F) (hv h 0) (hv h 128) (hv h 256) (hv h 384)) (hv h 16) (hv h 144) (hv h 272) (hv h 400) (hv h 32) (hv h 160) (hv h 288) (hv h 416) (hv h 48) (hv h 176) (hv h 304) (hv h 432))
      (k0_pay110 (F := F) (hv h 64) (hv h 192)) (hv h 320) (hv h 448) (hv h 80) (hv h 208) (hv h 336) (hv h 464) (hv h 96) (hv h 224) (hv h 352) (hv h 480) (hv h 112) (hv h 240) (hv h 368) (hv h 496)) k0_pay112
      = bestv h k0_pay82 k0_pay83 k0_pay84 k0_pay85 k0_pay86 k0_pay87 k0_pay88 k0_pay89 := rfl

end
end Cert.Proof.Tile
end
-- ==== Proof.Tile.lean ====
module

public import proofs.«01_k».proof.Proof.Body

/-!
# The body of a subcore

Its labels come in, its 65 windows are counted one after the other, its row of results goes out.
-/

@[expose] public section

noncomputable section
namespace Cert.Proof.Tile
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Count
variable {F : FTy → Type}

local notation "𝕄" => MT nD τ sig (HIx 1) (Elt F) ℕ UU ℕ

/-! ## The labels of a row, the row of results -/

def fcell (n : ℕ) : S262144.Idx := fun a => ⟨n % 262144, by rw [Fin.eq_zero a]; exact Nat.mod_lt _ (by decide)⟩
def ocell (w : Fin 32) (j : Fin 80) : S32x80.Idx := fun a => Fin.cases w (fun b => Fin.cases j (fun x => x.elim0) b) a

def rcell (j : Fin 80) : S80.Idx := fun a => ⟨j.val, by rw [Fin.eq_zero a]; exact j.isLt⟩

/-- Label `n` of row `b`. -/
def labels (flat : S262144.Idx → BitVec 32) (b n : ℕ) : ℕ := (flat (fcell (32768 * b + n))).toNat

/-- What subcore `w` leaves in cell `j ≤ 64` of its row of results. -/
def result (flat : S262144.Idx → BitVec 32) (w j : ℕ) : BitVec 32 :=
  BitVec.ofNat 32 (mode (wcount (labels flat (w / 4)) (64 * (w % 4) + j)))

section
variable [FloatOps F]
variable (d : Dev nD) (L : grid0.Coords)

abbrev srcRect : Rect S262144 := Rect.unit (s := S262144) (k0_off1 L) S12288.size (k0_off1_inb L)
abbrev aSrc : Memref sig .scVector .hbm S12288 .i32 := aFlat.slice (srcRect L) (fun _ => rfl)
abbrev rowRect : Rect S32x80 := Rect.unit (s := S32x80) (k0_off9 L) S1x80.size (k0_off9_inb L)
abbrev aRow : Memref sig .scVector .hbm S80 .i32 := (aOut.slice (rowRect L) (fun _ => rfl)).squeeze S80 squeezes_S1x80_S80

theorem part11_eq :
    k0_part11 (F := F) L aFlat (Memref.isWhole_whole _) aOut (Memref.isWhole_whole _) aLbl (Memref.isWhole_whole _) aHist (Memref.isWhole_whole _)
          aRes (Memref.isWhole_whole _) cc0_scoped0 cc0_scoped1
      = .op (.enqueueDma (aSrc L) (.here aLbl) (.dma cc0_scoped0.sem) (View.wordExact_bits rfl) (Memref.isWhole_whole _).wordExact ⟨Or.inl rfl, trivial⟩)
          fun _ => .ret ⟨vq L, vs L⟩ := by
  rw [k0_part11_eq_skeleton]; rfl

theorem lbl_in (f : Buf (Elt F) (aLbl.view.loc (VT d L))) (flat : Buf (Elt F) (aFlat.view.loc (VT d L))) :
    aLbl.view.write (Elt F) f ((aSrc L).view.read (Elt F) flat) Finset.univ = (aSrc L).view.read (Elt F) flat :=
  View.write_whole_univ _ _ _

theorem src_read (flat : Buf (Elt F) (aFlat.view.loc (VT d L))) (x : S12288.Idx) :
    (aSrc L).view.read (Elt F) flat x = flat (fcell (32768 * (wid L / 4) + (sOff (quar L) + (x 0).val))) := by
  show flat _ = flat _
  congr 1
  funext a
  obtain rfl : a = 0 := Fin.eq_zero a
  apply Fin.ext
  have h1 : k0_off1 L 0 + 12288 ≤ 262144 := k0_off1_inb L 0
  have h2 := off1_eq L
  have h3 : (x 0).val < 12288 := (x 0).isLt
  show k0_off1 L 0 + 1 * (x 0).val = (32768 * (wid L / 4) + (sOff (quar L) + (x 0).val)) % 262144
  rw [Nat.mod_eq_of_lt (by omega)]; omega

theorem src_lval (flat : Buf (Elt F) (aFlat.view.loc (VT d L))) (n : ℕ) (hn : n < 12288) :
    lval ((aSrc L).view.read (Elt F) flat : S12288.Idx → BitVec 32) n = labels flat (wid L / 4) (sOff (quar L) + n) := by
  unfold lval labels
  rw [src_read, show ((lcell n) 0).val = n from Nat.mod_eq_of_lt hn]

theorem row_cell : ∀ j : Fin 80, (rowRect L).emb (Shape.reshapeEquiv squeezes_S1x80_S80.numel_eq (rcell j)) = ocell ⟨wid L, wid_lt L⟩ j := by
  intro j
  have h : ∀ j : Fin 80, ((Shape.reshapeEquiv squeezes_S1x80_S80.numel_eq (rcell j)) 0).val = 0
      ∧ ((Shape.reshapeEquiv squeezes_S1x80_S80.numel_eq (rcell j)) 1).val = j.val := by decide +kernel
  have h0 := off9_eq0 L
  have h1 := off9_eq1 L
  funext a
  apply Fin.ext
  match a with
  | 0 =>
    show k0_off9 L 0 + 1 * ((Shape.reshapeEquiv squeezes_S1x80_S80.numel_eq (rcell j)) 0).val = wid L
    rw [(h j).1, h0]; rfl
  | 1 =>
    show k0_off9 L 1 + 1 * ((Shape.reshapeEquiv squeezes_S1x80_S80.numel_eq (rcell j)) 1).val = j.val
    rw [(h j).2, h1]; omega

theorem row_out (f : Buf (Elt F) (aOut.view.loc (VT d L))) (r : S80.Idx → BitVec 32) (j : Fin 80) :
    (aRow L).view.write (Elt F) f r Finset.univ (ocell ⟨wid L, wid_lt L⟩ j) = r (rcell j) := by
  rw [← row_cell]
  exact View.write_emb_of_mem (v := (aRow L).view) (Val := Elt F) f r (x := rcell j) (Finset.mem_univ _)

theorem Zt_zero (f : Buf (Elt F) (aHist.view.loc (VT d L))) : (aHist.view.loc (VT d L) ↦{fullShare} f : sProp 𝕄) ⊢ Zt d L 0 := by
  unfold Zt
  iintro H
  iexists f
  isplitr; · ipureintro; exact fun x hx => absurd hx (Nat.not_lt_zero _)
  iexact H

/-- After `i` slides of the window. -/
def Inv (q : PosShare TreeShare) (fl : Buf (Elt F) (aLbl.view.loc (VT d L))) (G : ℕ → ℕ) (i : ℕ) : sProp 𝕄 :=
  iprop((aLbl.view.loc (VT d L) ↦{q} fl) ∗ Hist d L (fun c => BitVec.ofNat 32 (wcount G (64 * quar L + i) c))
    ∗ ∃ r : Buf (Elt F) (aRes.view.loc (VT d L)),
        ⌜∀ x : S80.Idx, (x 0).val ≤ i → r x = BitVec.ofNat 32 (mode (wcount G (64 * quar L + (x 0).val)))⌝ ∗ (aRes.view.loc (VT d L) ↦{fullShare} r))

theorem inv_step (q : PosShare TreeShare) (fl : Buf (Elt F) (aLbl.view.loc (VT d L))) (hlt : ∀ x, (fl x).toNat < 128)
    (G : ℕ → ℕ) (hfl : ∀ n < 12288, lval fl n = G (sOff (quar L) + n)) (t : Fin k0_t2_loop.trips) :
    Inv d L q fl G t.val ⊢ wp frame (wpE (defs₀ (F := F)) 𝒱₀ (VT d L) none) Set.univ
        (k0_t2_body L aFlat (Memref.isWhole_whole _) aOut (Memref.isWhole_whole _) aLbl (Memref.isWhole_whole _) aHist (Memref.isWhole_whole _)
          aRes (Memref.isWhole_whole _) cc0_scoped0 cc0_scoped1 (vq L) (vs L) k0_pay74 k0_pay75 k0_pay76 k0_pay77 k0_pay78 k0_pay79 k0_pay80 k0_pay81
          k0_pay82 k0_pay83 k0_pay84 k0_pay85 k0_pay86 k0_pay87 k0_pay88 k0_pay89 t ())
        fun _ => Inv d L q fl G (t.val + 1) := by
  unfold Inv
  iintro ⟨Hl, Hh, %r, %hr, Hr⟩
  iapply (wp_wand_r Idealize.ShloMosaic.frame (wpE (defs₀ (F := F)) 𝒱₀ (VT d L) none) Set.univ)
  isplitl [Hl Hh Hr]
  · iapply (t2_trip d L q fl hlt (vq L) (vs L) k0_pay74 k0_pay75 k0_pay76 k0_pay77 k0_pay78 k0_pay79 k0_pay80 k0_pay81
      k0_pay82 k0_pay83 k0_pay84 k0_pay85 k0_pay86 k0_pay87 k0_pay88 k0_pay89 off44 off45 off46 off47 (fun _ => rfl) (fun _ => rfl) pay74_iff
      key82 key83 key84 key85 key86 key87 key88 key89 t (64 * quar L + t.val < 16) (272 ≤ 64 * quar L + t.val + 32)
      (by rw [vq_eq]; exact pay11_iff ⟨quar L, quar_lt L⟩ t) (by rw [vq_eq]; exact pay12_iff ⟨quar L, quar_lt L⟩ t)
      (fun c => BitVec.ofNat 32 (wcount G (64 * quar L + t.val) c)) (wcount G (64 * quar L + t.val + 1)) (fun c => wcount_le _ _ c)
      (fun c _ => trip2_slide (quar_lt L) (lt_of_lt_of_eq t.isLt trips2) hfl (subAt_eq L t) (addAt_eq L t) c) r)
    isplitl [Hl]; · iexact Hl
    isplitl [Hh]; · iexact Hh
    iexact Hr
  iintro %_ ⟨Hl, Hh, Hr⟩
  isplitl [Hl]; · iexact Hl
  isplitl [Hh]; · iexact Hh
  iexists _
  isplitr
  rotate_left
  · iexact Hr
  · ipureintro
    intro x hx
    unfold putRes
    by_cases h : (x 0).val = t.val + 1
    · rw [if_pos h, h]; rfl
    · rw [if_neg h]; exact hr x (by omega)

/-- The subcore's part of the array of results. -/
abbrev rowOf : Finset (Idx ((aRow L).view.loc (VT d L))) := (aRow L).view.set

theorem pts_aLbl (f : Buf (Elt F) (aLbl.view.loc (VT d L))) :
    (aLbl.view.loc (VT d L) ↦[aLbl.view.set]{fullShare} f : sProp 𝕄) = aLbl.view.loc (VT d L) ↦{fullShare} f := by
  simp only [Memref.view_whole, View.set_whole]
theorem pts_aRes (f : Buf (Elt F) (aRes.view.loc (VT d L))) :
    (aRes.view.loc (VT d L) ↦[aRes.view.set]{fullShare} f : sProp 𝕄) = aRes.view.loc (VT d L) ↦{fullShare} f := by
  simp only [Memref.view_whole, View.set_whole]

set_option maxHeartbeats 2000000 in
theorem tile_run (q : PosShare TreeShare) (flat : Buf (Elt F) (aFlat.view.loc (VT d L))) (hlt : ∀ x, (flat x).toNat < 128)
    (O : CellTallies nD τ sig (HIx 1)) (W : Waits sig (HIx 1))
    (f0 : Buf (Elt F) (aLbl.view.loc (VT d L))) (f1 : Buf (Elt F) (aHist.view.loc (VT d L))) (f2 : Buf (Elt F) (aRes.view.loc (VT d L)))
    (g0 : Buf (Elt F) ((aRow L).view.loc (VT d L))) :
    (iprop(Transfers.MayWaits (VT d L) (none : HIx 1) O
        ∗ (aFlat.view.loc (VT d L) ↦{q} flat)
        ∗ ((aRow L).view.loc (VT d L) ↦[(aRow L).view.set]{fullShare} g0)
        ∗ (aLbl.view.loc (VT d L) ↦{fullShare} f0) ∗ (aHist.view.loc (VT d L) ↦{fullShare} f1) ∗ (aRes.view.loc (VT d L) ↦{fullShare} f2)
        ∗ semVal (VT d L, SemLoc.dma cc0_scoped0.sem) 0 ∗ semVal (VT d L, SemLoc.dma cc0_scoped1.sem) 0
        ∗ owes (VT d L) O W) : sProp 𝕄)
      ⊢ wp frame (wpE (defs₀ (F := F)) 𝒱₀ (VT d L) none) Set.univ
        (cc0_k L aFlat (Memref.isWhole_whole _) aOut (Memref.isWhole_whole _) aLbl (Memref.isWhole_whole _) aHist (Memref.isWhole_whole _)
          aRes (Memref.isWhole_whole _) cc0_scoped0 cc0_scoped1)
        fun _ => iprop((aFlat.view.loc (VT d L) ↦{q} flat)
          ∗ (∃ g : Buf (Elt F) ((aRow L).view.loc (VT d L)), ⌜∀ j : Fin 80, j.val ≤ 64 → g (ocell ⟨wid L, wid_lt L⟩ j) = result flat (wid L) j.val⌝
              ∗ ((aRow L).view.loc (VT d L) ↦[(aRow L).view.set]{fullShare} g))
          ∗ (∃ f, aLbl.view.loc (VT d L) ↦{fullShare} f) ∗ (∃ f, aHist.view.loc (VT d L) ↦{fullShare} f) ∗ (∃ f, aRes.view.loc (VT d L) ↦{fullShare} f)
          ∗ semVal (VT d L, SemLoc.dma cc0_scoped0.sem) 0 ∗ semVal (VT d L, SemLoc.dma cc0_scoped1.sem) 0
          ∗ ∃ W', ⌜∀ p ∈ W', p ∈ W ∨ p.2 = none⌝ ∗ owes (VT d L) O W') := by
  rw [cc0_k_eq_skeleton]; unfold cc0_k_skel
  rw [part11_eq]
  simp only [k0_part12_eq_skeleton]
  unfold k0_part12_skel
  simp only [Prog.lift, Prog.bind_op, Prog.bind_ret, Prog.pure_eq_ret, Prog.bind_assoc]
  iintro ⟨#Hmw, Hflat, Hrow, Hl, Hh, Hr, Hs0, Hs1, HO⟩
  ihave Hf := (pointsTo_split_subset (ℓ := aFlat.view.loc (VT d L)) (Finset.subset_univ (aSrc L).view.set)).1 $$ Hflat
  icases Hf with ⟨Hsrc, Hrest⟩
  ihave Hl := (Entails.of_eq (pts_aLbl (F := F) d L _).symm) $$ Hl
  iapply (Transfers.wp_dmaLocal countersEmb 𝒱₀ (VT d L) none (none : HIx 1) _ rfl (View.amount_pos _ _ (show 0 < S12288.numel by decide)) (Finset.Subset.refl _)) $$ [Hsrc Hl Hs0]
  · isplitl [Hsrc]; · iexact Hsrc
    isplitl [Hl]; · iexact Hl
    iexact Hs0
  iintro Hfl
  ihave Hw := (Transfers.MayWaits.elim (SemLoc.dma cc0_scoped0.sem)) $$ Hmw
  iapply (Transfers.wp_waitLocalO countersEmb 𝒱₀ (VT d L) none (none : HIx 1) rfl) $$ [Hfl HO Hw]
  · isplitl [Hfl]; · iexact Hfl
    isplitl [HO] <;> iassumption
  iintro ⟨⟨Hl, Hsrc⟩, Hs0, HO⟩
  ihave Hflat := (pointsTo_split_subset (ℓ := aFlat.view.loc (VT d L)) (Finset.subset_univ (aSrc L).view.set)).2 $$ [Hsrc Hrest]
  · isplitl [Hsrc] <;> iassumption
  ihave Hl := (Entails.of_eq ((pts_aLbl (F := F) d L _).trans (congrArg (fun f => (aLbl.view.loc (VT d L) ↦{fullShare} f : sProp 𝕄)) (lbl_in (F := F) d L f0 flat)))) $$ Hl
  have hlt' : ∀ x, ((aSrc L).view.read (Elt F) flat x : BitVec 32).toNat < 128 := fun x => by rw [src_read (F := F) d L]; exact hlt _
  have hfl := src_lval (F := F) d L flat
  ihave Hh := (Zt_zero (F := F) d L f1) $$ Hh
  iapply (wp_zero (F := F) d L 16 (by rfl) zeros) $$ Hh
  iintro Hh
  iapply (wp_zero (F := F) d L 32 (by rfl) zeros) $$ Hh
  iintro Hh
  iapply (wp_zero (F := F) d L 48 (by rfl) zeros) $$ Hh
  iintro Hh
  rw [wp_bind]
  iapply (wp_wand_r Idealize.ShloMosaic.frame (wpE (defs₀ (F := F)) 𝒱₀ (VT d L) none) Set.univ)
  isplitl [Hh]
  · iapply (part13_run (F := F) d L); iexact Hh
  iintro %_ Hh
  rw [wp_bind]
  iapply (wp_wand_r Idealize.ShloMosaic.frame (wpE (defs₀ (F := F)) 𝒱₀ (VT d L) none) Set.univ)
  isplitl [Hh Hl]
  · iapply (part14_run (F := F) d L fullShare _ hlt' (labels flat (wid L / 4)) hfl)
    isplitl [Hl] <;> iassumption
  iintro %v ⟨%h, %hh, Hl, Hh⟩
  obtain ⟨ht, rfl⟩ := hh
  rw [wp_bind]
  iapply (wp_wand_r Idealize.ShloMosaic.frame (wpE (defs₀ (F := F)) 𝒱₀ (VT d L) none) Set.univ)
  isplitl [Hh]
  · iapply (part15_run (F := F) d L _ h); iexact Hh
  iintro %v ⟨%e, Hh⟩
  subst e
  dsimp only
  rw [wp_bind]
  iapply (wp_wand_r Idealize.ShloMosaic.frame (wpE (defs₀ (F := F)) 𝒱₀ (VT d L) none) Set.univ)
  isplitl [Hh]
  · iapply (part16_run (F := F) d L _ _ _ h); iexact Hh
  iintro %v ⟨%e, Hh⟩
  subst e
  dsimp only
  iapply (wp_res (F := F) d L (hix := k0_idx11_inb _) rfl f2 (by decide) pay74_iff) $$ Hr
  iintro Hr
  iapply (Scf.wp_for_bind Idealize.ShloMosaic.frame (wpE (defs₀ (F := F)) 𝒱₀ (VT d L) none) Set.univ _ _ _ k0_t2_ok _ _
    (fun t _ => Inv d L fullShare ((aSrc L).view.read (Elt F) flat) (labels flat (wid L / 4)) t) ?hb) $$ [Hl Hh Hr]
  case hb =>
    intro t _
    exact inv_step (F := F) d L fullShare _ hlt' _ hfl t
  · unfold Inv
    isplitl [Hl]; · iexact Hl
    isplitl [Hh]
    · unfold Hist
      iexists h
      isplitr
      · ipureintro; exact ht
      · iexact Hh
    iexists _
    isplitr
    rotate_left
    · iexact Hr
    · ipureintro
      intro x hx
      have hx0 : (x 0).val = 0 := Nat.le_zero.1 hx
      refine (if_pos hx0).trans ?_
      rw [hx0]
      exact (congrFun (first_best (F := F) h) (ln 15)).trans
        (bestv_last ht (fun c => wcount_le _ _ c) key82 key83 key84 key85 key86 key87 key88 key89)
  iintro %_ Hinv
  rw [show Scf.trips k0_t2_loop.lb k0_t2_loop.ub k0_t2_loop.st = 64 from trips2]
  unfold Inv
  icases Hinv with ⟨Hl, Hh, %r, %hr, Hr⟩
  ihave Hr := (Entails.of_eq (pts_aRes (F := F) d L _).symm) $$ Hr
  iapply (Transfers.wp_dmaLocal countersEmb 𝒱₀ (VT d L) none (none : HIx 1) _ rfl (View.amount_pos _ _ (show 0 < S80.numel by decide)) (Finset.Subset.refl _)) $$ [Hr Hrow Hs1]
  · isplitl [Hr]; · iexact Hr
    isplitl [Hrow]; · iexact Hrow
    iexact Hs1
  iintro Hfl
  ihave Hw := (Transfers.MayWaits.elim (SemLoc.dma cc0_scoped1.sem)) $$ Hmw
  iapply (Transfers.wp_waitLocalO countersEmb 𝒱₀ (VT d L) none (none : HIx 1) rfl) $$ [Hfl HO Hw]
  · isplitl [Hfl]; · iexact Hfl
    isplitl [HO] <;> iassumption
  iintro ⟨⟨Hrow, Hr⟩, Hs1, HO⟩
  ihave Hr := (Entails.of_eq (pts_aRes (F := F) d L _)) $$ Hr
  unfold Hist
  icases Hh with ⟨%h', -, Hh⟩
  rw [wp_ret]; imodintro
  isplitl [Hflat]; · iexact Hflat
  isplitl [Hrow]
  · iexists _
    isplitr
    rotate_left
    · iexact Hrow
    · ipureintro
      intro j hj
      exact (row_out (F := F) d L g0 r j).trans (hr (rcell j) hj)
  isplitl [Hl]; · iexists _; iexact Hl
  isplitl [Hh]; · iexists _; iexact Hh
  isplitl [Hr]; · iexists _; iexact Hr
  isplitl [Hs0]; · iexact Hs0
  isplitl [Hs1]; · iexact Hs1
  iexists _
  isplitr
  rotate_left
  · iexact HO
  · ipureintro
    intro p hp
    rcases Finset.mem_insert.mp hp with rfl | hp
    · exact .inr rfl
    rcases Finset.mem_insert.mp hp with rfl | hp
    · exact .inr rfl
    · exact .inl hp

end
end Cert.Proof.Tile
end
-- ==== Proof.Launch.lean ====
module

public import proofs.«01_k».proof.Proof.Tile

/-!
# The launch

The call hands every vector subcore a read token of the flat labels and its own row of the results; every
subcore brings the token back, and its row with the modes of its windows in cells 0..64.
-/

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Count

variable {F : FTy → Type}

local notation "𝕄" => MT nD τ sig (HIx 1) (Elt F) ℕ UU ℕ

/-! ## The rows of the results, one per subcore -/

def rowSet (w : Fin 32) : Finset S32x80.Idx := Finset.univ.filter fun x => (x 0).val = w.val

theorem rows_disjoint : ∀ i ∈ (Finset.univ : Finset (Fin 32)), ∀ j ∈ (Finset.univ : Finset (Fin 32)), i ≠ j → Disjoint (rowSet i) (rowSet j) := by
  intro i _ j _ h
  refine Finset.disjoint_left.mpr fun x h1 h2 => h (Fin.ext ?_)
  rw [← (Finset.mem_filter.mp h1).2, ← (Finset.mem_filter.mp h2).2]

theorem rows_cover : (Finset.univ : Finset (Fin 32)).biUnion rowSet = Finset.univ := by
  refine Finset.eq_univ_iff_forall.mpr fun x => Finset.mem_biUnion.mpr ⟨⟨(x 0).val, (x 0).isLt⟩, Finset.mem_univ _, ?_⟩
  exact Finset.mem_filter.mpr ⟨Finset.mem_univ _, rfl⟩

theorem ocell_mem (w : Fin 32) (j : Fin 80) : ocell w j ∈ rowSet w := Finset.mem_filter.mpr ⟨Finset.mem_univ _, rfl⟩

/-- The subcore number of core `c` and subcore `i`. -/
def wAt (c i : ℕ) : Fin 32 := ⟨(16 * c + i) % 32, Nat.mod_lt _ (by decide)⟩

theorem wAt_eq (L : grid0.Coords) : wAt (L 0).val (L 1).val = ⟨wid L, wid_lt L⟩ :=
  Fin.ext (Nat.mod_eq_of_lt (wid_lt L))

theorem set_aRow (L : grid0.Coords) : (aRow L).view.set = rowSet (wAt (L 0).val (L 1).val) := by
  show ((aOut.view.slice (rowRect L)).reshape S80 squeezes_S1x80_S80.numel_eq).set = _
  rw [View.set_reshape]
  have e : ((View.whole (main_v1_scv : Ref sig .scVector)).slice (rowRect L)).set = (rowRect L).set := by
    rw [View.set_slice]; exact Finset.map_refl
  refine e.trans ?_
  rw [wAt_eq]
  ext x
  have h0 := off9_eq0 L
  have h1 := off9_eq1 L
  have hx : (x 1).val < 80 := (x 1).isLt
  rw [rowSet, Finset.mem_filter, Rect.mem_set_unit]
  constructor
  · intro h
    refine ⟨Finset.mem_univ _, ?_⟩
    have := h 0
    rw [h0] at this
    have s0 : S1x80.size 0 = 1 := rfl
    rw [s0] at this
    show (x 0).val = wid L
    omega
  · rintro ⟨-, h⟩ a
    match a with
    | 0 =>
      show k0_off9 L 0 ≤ (x 0).val ∧ (x 0).val < k0_off9 L 0 + 1
      rw [h0]
      have h' : (x 0).val = wid L := h
      omega
    | 1 =>
      show k0_off9 L 1 ≤ (x 1).val ∧ (x 1).val < k0_off9 L 1 + 80
      rw [h1]
      omega

section
variable (d : Dev nD)

theorem bigSep_cores (Φ : Fin 32 → sProp 𝕄) :
    (bigSep Finset.univ fun c : Fin ((K (F := F)).nCore 0) => bigSep Finset.univ fun i : Fin ((K (F := F)).nSub 0) => Φ (wAt c.val i.val))
      = bigSep Finset.univ Φ := by
  show (bigSep (Finset.univ : Finset (Fin 2)) fun c => bigSep (Finset.univ : Finset (Fin 16)) fun i => Φ (wAt c.val i.val)) = _
  rw [← SparseCore.bigSep_product (Finset.univ : Finset (Fin 2)) (Finset.univ : Finset (Fin 16)) (fun p => Φ (wAt p.1.val p.2.val))]
  rw [show (Finset.univ : Finset (Fin 32)) = ((Finset.univ : Finset (Fin 2)) ×ˢ (Finset.univ : Finset (Fin 16))).image (fun p => wAt p.1.val p.2.val) by decide +kernel]
  rw [SparseCore.bigSep_image_of_injOn (f := fun p : Fin 2 × Fin 16 => wAt p.1.val p.2.val)]
  intro a _ b _ e
  have e' := congrArg Fin.val e
  simp only [wAt] at e'
  have := a.1.isLt; have := a.2.isLt; have := b.1.isLt; have := b.2.isLt
  exact Prod.ext (Fin.ext (by omega)) (Fin.ext (by omega))

theorem outPts_rows (f : Buf (Elt F) (outLoc d)) :
    (outLoc d ↦{fullShare} f : sProp 𝕄) = bigSep Finset.univ fun w : Fin 32 => outLoc d ↦[rowSet w]{fullShare} f := by
  rw [← pointsTo_biUnion Finset.univ (ℓ := outLoc d) rowSet rows_disjoint, rows_cover]; try rfl

/-- The results are right: cell `j ≤ 64` of every row. -/
def Good (flat : S262144.Idx → BitVec 32) (g : S32x80.Idx → BitVec 32) : Prop :=
  ∀ w : Fin 32, ∀ j : Fin 80, j.val ≤ 64 → g (ocell w j) = result flat w.val j.val

theorem rows_pure (φ : Fin 32 → Prop) :
    (bigSep (Finset.univ : Finset (Fin 32)) fun w => (iprop(⌜φ w⌝) : sProp 𝕄)) ⊢ (iprop(⌜∀ w, φ w⌝) : sProp 𝕄) := by
  iintro H %w
  ihave H := (show (bigSep (Finset.univ : Finset (Fin 32)) fun w => (iprop(⌜φ w⌝) : sProp 𝕄)) ⊢ (iprop(⌜φ w⌝) : sProp 𝕄) from
    BI.bigSep_elim (Finset.mem_univ w)) $$ H
  iexact H

def outRow (flat : Buf (Elt F) (flatLoc d)) (w : Fin 32) : sProp 𝕄 :=
  iprop(∃ g : Buf (Elt F) (outLoc d), ⌜∀ j : Fin 80, j.val ≤ 64 → g (ocell w j) = result flat w.val j.val⌝ ∗ (outLoc d ↦[rowSet w]{fullShare} g))

theorem outRows_join (flat : Buf (Elt F) (flatLoc d)) :
    (bigSep Finset.univ fun w : Fin 32 => outRow (F := F) d flat w)
      ⊢ (iprop(∃ g : Buf (Elt F) (outLoc d), ⌜Good flat g⌝ ∗ outLoc d ↦{fullShare} g) : sProp 𝕄) := by
  unfold outRow
  haveI : Nonempty (Buf (Elt F) (outLoc d)) := ⟨fun _ => (0 : BitVec 32)⟩
  refine (bigSep_exists_pi Finset.univ (fun w (g : Buf (Elt F) (outLoc d)) =>
    iprop(⌜∀ j : Fin 80, j.val ≤ 64 → g (ocell w j) = result flat w.val j.val⌝ ∗ (outLoc d ↦[rowSet w]{fullShare} g)))).trans ?_
  iintro ⟨%fs, H⟩
  ihave H := (Entails.of_eq (bigSep_sep' (Finset.univ : Finset (Fin 32))
    (fun w => (iprop(⌜∀ j : Fin 80, j.val ≤ 64 → fs w (ocell w j) = result flat w.val j.val⌝) : sProp 𝕄)) (fun w => outLoc d ↦[rowSet w]{fullShare} fs w))) $$ H
  icases H with ⟨Hp, H⟩
  ihave Hp := (rows_pure (F := F) fun w => ∀ j : Fin 80, j.val ≤ 64 → fs w (ocell w j) = result flat w.val j.val) $$ Hp
  icases Hp with %hp
  ihave H' := (pointsTo_biUnion_join Finset.univ rowSet fs (fs 0) rows_disjoint) $$ H
  icases H' with ⟨%g, %hg, Hg⟩
  rw [rows_cover]
  iexists g
  isplitr
  · ipureintro
    intro w j hj
    rw [hg w (Finset.mem_univ _) _ (ocell_mem w j)]
    exact hp w j hj
  · iexact Hg

end

/-! ## A subcore's own semaphores and scratch -/

section Own
variable (d : Dev nD) (L : grid0.Coords)

abbrev cAcell : GSem nD τ sig := (VT d L, SemLoc.dma cc0_scoped0.sem)
abbrev cBcell : GSem nD τ sig := (VT d L, SemLoc.dma cc0_scoped1.sem)

theorem ownSems0_V :
    (ownSems0 (V d (cV L) (jV L)) : sProp 𝕄)
      = iprop(semVal (cAcell d L) 0 ∗ semVal (cBcell d L) 0
          ∗ bigSep (((ownCells (V d (cV L) (jV L))).erase (cAcell d L)).erase (cBcell d L)) fun g => semVal g 0) := by
  unfold SparseCore.Cfg.ownSems0
  rw [SparseCore.bigSep_erase' ((mem_ownCells (g := cAcell d L)).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc0_scoped1.sem : SemLoc sig).isScoped .scVector = true; decide⟩⟩)]

theorem ownBufs_V :
    (ownBufs (V d (cV L) (jV L)) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

end Own

/-! ## What the call carries -/

variable [FloatOps F]
variable (m : (ℓ : Loc nD τ sig) → Buf (Elt F) ℓ) (ρ : Dev nD → PrngReg)

abbrev v0' : DevRef τ sig := Proc.devRef .tc (main_v0 : Ref sig .tc)
abbrev v1' : DevRef τ sig := Proc.devRef .tc (main_v1 : Ref sig .tc)

/-- The launch's arrays; after the first reshape. -/
def V0 (d : Dev nD) : Valuation τ sig (Elt F) := fun b => m (d, b)
abbrev opFlat : HloOp τ sig (Elt F) := StableHlo.reshape main_arg0 main_v0 (rfl : (.i32 : EltTy) = .i32) shapeCasts_S8x32768_S262144
def V1 (d : Dev nD) : Valuation τ sig (Elt F) := (opFlat (F := F)).result (V0 m d)

/-- The labels, flat. -/
def flatV (d : Dev nD) : Buf (Elt F) (flatLoc d) := V1 m d v0'

/-- What the proof asks of the launch memory: every label is below 128. -/
def LabOK : Prop := ∀ d : Dev nD, ∀ x : S262144.Idx, (flatV m d x : BitVec 32).toNat < 128

def goP (d : Dev nD) (w : Fin 32) : sProp 𝕄 :=
  iprop((flatLoc d ↦{Transfers.shareTok fullShare 32 w} flatV m d) ∗ (outLoc d ↦[rowSet w]{fullShare} m (outLoc d)))
def tdP (d : Dev nD) (w : Fin 32) : sProp 𝕄 :=
  iprop((flatLoc d ↦{Transfers.shareTok fullShare 32 w} flatV m d) ∗ outRow d (flatV m d) w)

instance goP_storable (d : Dev nD) (w : Fin 32) : BI.Storable (upEmb : UEmb _ 𝕄) (goP m d w) := by
  unfold goP; infer_instance
instance tdP_storable (d : Dev nD) (w : Fin 32) : BI.Storable (upEmb : UEmb _ 𝕄) (tdP m d w) := by
  unfold tdP outRow; infer_instance

def P : (K (F := F)).Pay (nD := nD) (Val := Elt F) (Name := ℕ) (U := UU) where
  st := fun q d c => match q with | 0 => bigSep Finset.univ fun i : Fin ((K (F := F)).nSub 0) => goP m d (wAt c.val i.val)
  dn := fun q d c => match q with | 0 => bigSep Finset.univ fun i : Fin ((K (F := F)).nSub 0) => tdP m d (wAt c.val i.val)
  go := fun q d c i => match q with | 0 => goP m d (wAt c.val i.val)
  td := fun q d c i => match q with | 0 => tdP m d (wAt c.val i.val)
  x := fun _ _ => iprop(emp)

instance P_storable : (P (F := F) m).IsStorable where
  st q d c := match q with
    | 0 => (inferInstance : BI.Storable (upEmb : UEmb _ 𝕄) (bigSep Finset.univ fun i : Fin ((K (F := F)).nSub 0) => goP m d (wAt c.val i.val)))
  dn q d c := match q with
    | 0 => (inferInstance : BI.Storable (upEmb : UEmb _ 𝕄) (bigSep Finset.univ fun i : Fin ((K (F := F)).nSub 0) => tdP m d (wAt c.val i.val)))
  go q d c i := match q with | 0 => goP_storable m d (wAt c.val i.val)
  td q d c i := match q with | 0 => tdP_storable m d (wAt c.val i.val)

/-! ## A subcore's task -/

section Task
variable (d : Dev nD) (L : grid0.Coords)

theorem tile_body (hF : (K (F := F)).Facts) (hpre : LabOK m) (O : CellTallies nD τ sig (HIx 1)) (W : Waits sig (HIx 1)) (hO : ∀ g, O g none = 0) :
    iprop(levAts (K (F := F)).L (K (F := F)).lev ∗ emp ∗ goP m d (wAt (L 0).val (L 1).val)
        ∗ scopedBufs (VT d L) ∗ scopedSems0 (VT d L) ∗ owes (VT d L) O W)
      ⊢ wp frame (wpE (defs₀ (F := F)) 𝒱₀ (VT d L) none) Set.univ
          (cc0_k L aFlat (Memref.isWhole_whole _) aOut (Memref.isWhole_whole _) aLbl (Memref.isWhole_whole _) aHist (Memref.isWhole_whole _)
            aRes (Memref.isWhole_whole _) cc0_scoped0 cc0_scoped1)
          fun _ => iprop(tdP m d (wAt (L 0).val (L 1).val) ∗ scopedBufs (VT d L) ∗ scopedSems0 (VT d L)
            ∗ ∃ W', ⌜∀ p ∈ W', p ∈ W ∨ p.2 = none⌝ ∗ owes (VT d L) O W') := by
  rw [(K (F := F)).scopedBufs_V hF d (cV L) (jV L), SparseCore.Cfg.scopedSems0_V (Val := Elt F) d (cV L) (jV L), ownSems0_V, ownBufs_V]
  unfold goP tdP outRow
  rw [← set_aRow L, wAt_eq L]
  iintro ⟨#Hlv, -, ⟨Hf, Ho⟩, ⟨⟨%f0, H0⟩, ⟨%f1, H1⟩, ⟨%f2, H2⟩, Hbufs⟩, ⟨HA, HB, Hsems⟩, HO⟩
  ihave Hmw := (show levAts (K (F := F)).L (K (F := F)).lev ⊢ Transfers.MayWaits (VT d L) (none : HIx 1) O from
    (K (F := F)).mayWaits_none (thr := VT d L) hO) $$ Hlv
  iapply (wp_wand_r Idealize.ShloMosaic.frame (wpE (defs₀ (F := F)) 𝒱₀ (VT d L) none) Set.univ)
  isplitl [Hf Ho H0 H1 H2 HA HB HO]
  · iapply (tile_run d L (Transfers.shareTok fullShare 32 ⟨wid L, wid_lt L⟩) (flatV m d) (hpre d) O W f0 f1 f2 (m (outLoc d)))
    isplitr; · iexact Hmw
    isplitl [Hf]; · iexact Hf
    isplitl [Ho]; · iexact Ho
    isplitl [H0]; · iexact H0
    isplitl [H1]; · iexact H1
    isplitl [H2]; · iexact H2
    isplitl [HA]; · iexact HA
    isplitl [HB]; · iexact HB
    iexact HO
  iintro %_ ⟨Hf, Ho, H0, H1, H2, HA, HB, HO⟩
  isplitl [Hf Ho]
  · isplitl [Hf]; · iexact Hf
    iexact Ho
  isplitl [H0 H1 H2 Hbufs]
  · isplitl [H0]; · iexact H0
    isplitl [H1]; · iexact H1
    isplitl [H2]; · iexact H2
    iexact Hbufs
  isplitl [HA HB Hsems]
  · isplitl [HA]; · iexact HA
    isplitl [HB]; · iexact HB
    iexact Hsems
  iexact HO

end Task

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          aFlat (Memref.isWhole_whole _) aOut (Memref.isWhole_whole _) aLbl (Memref.isWhole_whole _) aHist (Memref.isWhole_whole _)
            aRes (Memref.isWhole_whole _) cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : LabOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

theorem vecSplit : (K (F := F)).VecSplit' (P m) 0 := by
  intro d c
  show (bigSep Finset.univ fun i : Fin ((K (F := F)).nSub 0) => goP m d (wAt c.val i.val)) ⊢ |={Set.univ}=> iprop(
      (bigSep Finset.univ fun i : Fin ((K (F := F)).nSub 0) => goP m d (wAt c.val i.val))
      ∗ ((bigSep Finset.univ fun i : Fin ((K (F := F)).nSub 0) => tdP m d (wAt c.val i.val))
          -∗ (bigSep Finset.univ fun i : Fin ((K (F := F)).nSub 0) => tdP m d (wAt c.val i.val))))
  iintro H; imodintro
  isplitl [H]; · iexact H
  iintro H; iexact H

/-! ## The launch's element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof.Tile
-- ==== Proof.Host.lean ====
module

public import proofs.«01_k».proof.Proof.Launch

/-!
# The program's run

`@main` flattens the labels, makes the call, and gathers the modes out of the rows of results.
-/

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic
open Cert.Proof.Count

variable {F : FTy → Type}

local notation "𝕄" => MT nD τ sig (HIx 1) (Elt F) ℕ UU ℕ

/-! ## The TensorCore's arrays -/

abbrev AllT : Finset (DevRef τ sig) := tcRefs τ sig

theorem no_scoped : (Finset.univ.filter fun b : Ref sig .tc => ¬ b.isScoped) = Finset.univ := by decide

theorem unscoped_held (d : Dev nD) (W : Valuation τ sig (Elt F)) :
    (unscopedBufs d (fun b => W (Proc.devRef .tc b)) : sProp 𝕄) = held (T d) AllT W := by
  unfold unscopedBufs held
  rw [no_scoped]
  unfold AllT tcRefs
  rw [BI.bigSep_map]
  rfl

/-- Two arrays out of all, the flat labels and the results. -/
abbrev RestT : Finset (DevRef τ sig) := (AllT.erase v0').erase v1'

theorem held_split2 (d : Dev nD) (W : Valuation τ sig (Elt F)) :
    (held (T d) AllT W : sProp 𝕄)
      = iprop((flatLoc d ↦{fullShare} (W v0' : Buf (Elt F) (flatLoc d))) ∗ (outLoc d ↦{fullShare} (W v1' : Buf (Elt F) (outLoc d))) ∗ held (T d) RestT W) := by
  unfold held
  rw [SparseCore.bigSep_erase' (devRef_mem_tcRefs main_v0), SparseCore.bigSep_erase' (i := v1')
    (Finset.mem_erase.mpr ⟨devRef_ne_of_ne (show main_v1 ≠ main_v0 by decide), devRef_mem_tcRefs main_v1⟩)]

variable [FloatOps F]
variable (m : (ℓ : Loc nD τ sig) → Buf (Elt F) ℓ) (ρ : Dev nD → PrngReg)

/-- The operations after the call. -/
def opsT : List (HloOp τ sig (Elt F)) :=
  [StableHlo.reshape main_v1 main_v2 (rfl : (.i32 : EltTy) = .i32) shapeCasts_S32x80_S8x4x80,
   StableHlo.unary main_v2 main_v3 ((extractStridedSlice S8x1x64 ![0, 0, 0] · slices_S8x4x80_S8x1x64_0_0_0) : (⟨S8x4x80, .i32⟩ : BufTy).Contents (Elt F) → (⟨S8x1x64, .i32⟩ : BufTy).Contents (Elt F)),
   StableHlo.reshape main_v3 main_v4 (rfl : (.i32 : EltTy) = .i32) shapeCasts_S8x1x64_S8x64,
   StableHlo.unary main_v2 main_v5 ((extractStridedSlice S8x1x64 ![0, 1, 0] · slices_S8x4x80_S8x1x64_0_1_0) : (⟨S8x4x80, .i32⟩ : BufTy).Contents (Elt F) → (⟨S8x1x64, .i32⟩ : BufTy).Contents (Elt F)),
   StableHlo.reshape main_v5 main_v6 (rfl : (.i32 : EltTy) = .i32) shapeCasts_S8x1x64_S8x64,
   StableHlo.unary main_v2 main_v7 ((extractStridedSlice S8x1x64 ![0, 2, 0] · slices_S8x4x80_S8x1x64_0_2_0) : (⟨S8x4x80, .i32⟩ : BufTy).Contents (Elt F) → (⟨S8x1x64, .i32⟩ : BufTy).Contents (Elt F)),
   StableHlo.reshape main_v7 main_v8 (rfl : (.i32 : EltTy) = .i32) shapeCasts_S8x1x64_S8x64,
   StableHlo.unary main_v2 main_v9 ((extractStridedSlice S8x1x65 ![0, 3, 0] · slices_S8x4x80_S8x1x65_0_3_0) : (⟨S8x4x80, .i32⟩ : BufTy).Contents (Elt F) → (⟨S8x1x65, .i32⟩ : BufTy).Contents (Elt F)),
   StableHlo.reshape main_v9 main_v10 (rfl : (.i32 : EltTy) = .i32) shapeCasts_S8x1x65_S8x65,
   StableHlo.nary ![main_v4, main_v6, main_v8, main_v10] main_v11 (fun u => (concatenate S8x257 1 [⟨S8x64, (u 0 : (⟨S8x64, .i32⟩ : BufTy).Contents (Elt F))⟩, ⟨S8x64, (u 1 : (⟨S8x64, .i32⟩ : BufTy).Contents (Elt F))⟩, ⟨S8x64, (u 2 : (⟨S8x64, .i32⟩ : BufTy).Contents (Elt F))⟩, ⟨S8x65, (u 3 : (⟨S8x65, .i32⟩ : BufTy).Contents (Elt F))⟩] concatenates_S8x64_S8x64_S8x64_S8x65_S8x257_d1 : (⟨S8x257, .i32⟩ : BufTy).Contents (Elt F)))]

theorem main_eq (d : Dev nD) :
    main (F := F) d = (hlo rfl (opFlat (F := F)) fun _ => .ret (⟨⟩ : PUnit)) >>= fun _ => (sc (F := F)).run d 0 >>= fun _ => seq (opsT (F := F)) := rfl

theorem opsT_bufs : ∀ op ∈ opsT (F := F), op.bufs ⊆ AllT := by
  intro op h
  simp only [opsT, List.mem_cons, List.not_mem_nil, or_false] at h
  rcases h with rfl | rfl | rfl | rfl | rfl | rfl | rfl | rfl | rfl | rfl <;> simp
theorem opsT_fresh : ∀ op ∈ opsT (F := F), op.fresh = ∅ := by
  intro op h
  simp only [opsT, List.mem_cons, List.not_mem_nil, or_false] at h
  rcases h with rfl | rfl | rfl | rfl | rfl | rfl | rfl | rfl | rfl | rfl <;> rfl

/-- The arrays when the call has left `g` in the rows of results; the program's result. -/
def V2 (d : Dev nD) (g : Buf (Elt F) (outLoc d)) : Valuation τ sig (Elt F) := Function.update (V1 m d) v1' g
def endV (d : Dev nD) (g : Buf (Elt F) (outLoc d)) : Valuation τ sig (Elt F) := after (opsT (F := F)) (V2 m d g)

theorem V1_out (d : Dev nD) : V1 m d v1' = m (outLoc d) := by
  exact (opFlat (F := F)).result_of_not_mem (V0 m d) (b := v1') (by
    simp only [reshape_writes, Finset.mem_singleton]
    exact devRef_ne_of_ne (show main_v1 ≠ main_v0 by decide))
theorem V2_out (d : Dev nD) (g : Buf (Elt F) (outLoc d)) : V2 m d g v1' = g := Function.update_self _ _ _
theorem V2_ne (d : Dev nD) (g : Buf (Elt F) (outLoc d)) (b : DevRef τ sig) (h : b ≠ v1') : V2 m d g b = V1 m d b := Function.update_of_ne h _ _

theorem rest_V2 (d : Dev nD) (g : Buf (Elt F) (outLoc d)) : (held (T d) RestT (V2 m d g) : sProp 𝕄) = held (T d) RestT (V1 m d) := by
  unfold held
  refine bigSep_congr fun b hb => ?_
  rw [V2_ne m d g b (Finset.mem_erase.mp hb).1]

/-! ## The call's two ends -/

theorem st0_eq (d : Dev nD) : (bigSep Finset.univ fun c : Fin ((K (F := F)).nCore 0) => (P m).st 0 d c)
    = iprop((bigSep Finset.univ fun w : Fin 32 => flatLoc d ↦{Transfers.shareTok fullShare 32 w} flatV m d) ∗ (outLoc d ↦{fullShare} m (outLoc d))) := by
  refine (bigSep_cores (F := F) (fun w => goP m d w)).trans ?_
  unfold goP
  rw [bigSep_sep', ← outPts_rows]
theorem dn0_eq (d : Dev nD) : (bigSep Finset.univ fun c : Fin ((K (F := F)).nCore 0) => (P m).dn 0 d c)
    = iprop((bigSep Finset.univ fun w : Fin 32 => flatLoc d ↦{Transfers.shareTok fullShare 32 w} flatV m d) ∗ bigSep Finset.univ fun w : Fin 32 => outRow d (flatV m d) w) := by
  refine (bigSep_cores (F := F) (fun w => tdP m d w)).trans ?_
  unfold tdP
  rw [bigSep_sep']

/-- What `@main` leaves the claim. -/
def FIN (d : Dev nD) : sProp 𝕄 :=
  iprop(∃ g : Buf (Elt F) (outLoc d), ⌜Good (flatV m d) g⌝ ∗ held (T d) AllT (endV m d g))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd FIN
  rw [show (unscopedBufs d (fun b => m ((SparseCore.T d).loc b)) : sProp 𝕄) = held (T d) AllT (V0 m d) from unscoped_held d (V0 m d), main_eq]
  simp only [wp_bind]
  iintro ⟨#Hctx, Hst, ⟨Hb, Hheld, Hts, -⟩, -⟩
  iapply (wp_hlo_within 𝒱 (SparseCore.T d) none Set.univ (op := opFlat (F := F)) (S := AllT) (by simp) (V := V0 m d)) $$ [Hb Hheld]
  · isplitl [Hb]; · iexact Hb
    iexact Hheld
  iintro ⟨Hb, Hheld⟩
  rw [wp_ret]; imodintro
  ihave Hh := (Entails.of_eq (show held (T d) AllT ((opFlat (F := F)).result (V0 m d)) = _ from held_split2 (F := F) d (V1 m d))) $$ Hheld
  icases Hh with ⟨Hf, Ho, Hr⟩
  ihave Hf := (Transfers.pointsTo_toks_split fullShare 32) $$ Hf
  icases Hf with ⟨Hf0, Hf⟩
  iapply ((K (F := F)).wp_run (D (F := F)) 𝒱 (EH := EH) (P := P m) κ d 0) $$ [Hst Hf0 Hf Ho Hr Hb Hts]
  isplitr; · iexact Hctx
  isplitl [Hst]; · iexact Hst
  isplitl [Hf Ho]
  · rw [st0_eq, ← V1_out m d]
    isplitl [Hf]; · iexact Hf
    iexact Ho
  iintro ⟨Hst, Hdn⟩
  ihave Hdn' := (Entails.of_eq (dn0_eq m d)) $$ Hdn
  icases Hdn' with ⟨Hf, Hrows⟩
  ihave Ho := (outRows_join d (flatV m d)) $$ Hrows
  icases Ho with ⟨%g, %hg, Ho⟩
  ihave Hf := (Transfers.pointsTo_toks_join fullShare 32) $$ [Hf0 Hf]
  · isplitl [Hf0]; · iexact Hf0
    iexact Hf
  ihave Hheld := (Entails.of_eq (held_split2 (F := F) d (V2 m d g)).symm) $$ [Hf Ho Hr]
  · rw [V2_out, rest_V2, V2_ne m d g v0' (devRef_ne_of_ne (show main_v0 ≠ main_v1 by decide))]
    isplitl [Hf]; · iexact Hf
    isplitl [Ho]; · iexact Ho
    iexact Hr
  rw [show (seq (opsT (F := F)) : Prog (TpuEff nD τ sig (Elt F) (SparseCore.Sig (ΛP (F := F)) 1) .tc) PUnit) = seq (opsT (F := F)) >>= fun _ => .ret ⟨⟩ from (bind_pure _).symm]
  iapply (wp_seq 𝒱 none Set.univ d AllT (fun _ => .ret ⟨⟩) (opsT (F := F)) opsT_bufs opsT_fresh (V2 m d g)) $$ [Hb Hheld]
  · isplitl [Hb]; · iexact Hb
    iexact Hheld
  iintro ⟨Hb, Hheld⟩
  rw [wp_ret]; imodintro
  isplitl [Hst]; · iexact Hst
  isplitl [Hheld]
  · iexists g
    isplitr; · ipureintro; exact hg
    iexact Hheld
  isplitl [Hb] <;> iassumption

/-! ## What the final memory holds -/

/-- The program's final arrays at `g`. -/
def fq (d : Dev nD) (s' : Phys nD τ sig (Elt F)) : Prop :=
  ∃ g : Buf (Elt F) (outLoc d), Good (flatV m d) g ∧ ∀ b : Ref sig .tc, s'.mem.mem ((SparseCore.T d).loc b) = endV m d g (Proc.devRef .tc b)

theorem hfin (d : Dev nD) (s' : Phys nD τ sig (Elt F)) : iprop(FIN m d ∗ SI s') ⊢ (⌜fq m d s'⌝ : sProp 𝕄) := by
  unfold FIN
  iintro ⟨⟨%g, %hg, Hh⟩, HSI⟩
  ihave H := (show iprop(held (T d) AllT (endV m d g) ∗ SI s')
      ⊢ (⌜∀ b : Ref sig .tc, s'.mem.mem ((SparseCore.T d).loc b) = endV m d g (Proc.devRef .tc b)⌝ : sProp 𝕄) from by
    iintro ⟨Hh, HSI⟩ %b
    ihave Hb := (show held (T d) AllT (endV m d g) ⊢ ((SparseCore.T d).loc b ↦{fullShare} endV m d g (Proc.devRef .tc b) : sProp 𝕄) from
      BI.bigSep_elim (devRef_mem_tcRefs b)) $$ Hh
    ihave H := (SI_pointsTo_agree (st := s') (ℓ := (SparseCore.T d).loc b) (I := Finset.univ) (q := fullShare) (f := endV m d g (Proc.devRef .tc b))) $$ [HSI Hb]
    · isplitl [HSI] <;> iassumption
    icases H with %h
    ipureintro
    exact funext fun i => h i (Finset.mem_univ i)) $$ [Hh HSI]
  · isplitl [Hh]; · iexact Hh
    iexact HSI
  icases H with %h
  ipureintro
  exact ⟨g, hg, h⟩

def QC : PUnit × MemSt nD τ sig (Elt F) → Prop := fun r =>
  (∀ d : Dev nD, ∃ g : Buf (Elt F) (outLoc d), Good (flatV m d) g ∧ ∀ b : Ref sig .tc, r.2.mem ((SparseCore.T d).loc b) = endV m d g (Proc.devRef .tc b))
    ∧ r.2.sem = fun _ => 0

theorem run_main [∀ e, Nonempty (Elt F e)] (hpre : LabOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Tile
-- ==== Proof.Ends.lean ====
module

public import proofs.«01_k».proof.Proof.Host
public import Idealize.ShloMosaic.Lib.Pointwise

/-!
# The program's arguments and its result

The arguments are as the launch left them; the result holds, at row `b` and window `i`, the mode of that window.
-/

@[expose] public section

noncomputable section

namespace Cert.Proof.Tile

open Cert.KernelIdeal Cert.KernelIdeal.Gen

open Idealize.ShloMosaic
open Idealize.ShloMosaic.StableHlo
open Cert.Proof.Count

variable {F : FTy → Type}

/-- The rows of results gathered: of every four rows 64, 64, 64 and 65 cells. -/
def outF (g : S32x80.Idx → BitVec 32) : S8x257.Idx → BitVec 32 :=
  concatenate S8x257 1
    [⟨S8x64, shapeCast S8x64 (extractStridedSlice S8x1x64 ![0, 0, 0] (shapeCast S8x4x80 g shapeCasts_S32x80_S8x4x80) slices_S8x4x80_S8x1x64_0_0_0) shapeCasts_S8x1x64_S8x64⟩,
     ⟨S8x64, shapeCast S8x64 (extractStridedSlice S8x1x64 ![0, 1, 0] (shapeCast S8x4x80 g shapeCasts_S32x80_S8x4x80) slices_S8x4x80_S8x1x64_0_1_0) shapeCasts_S8x1x64_S8x64⟩,
     ⟨S8x64, shapeCast S8x64 (extractStridedSlice S8x1x64 ![0, 2, 0] (shapeCast S8x4x80 g shapeCasts_S32x80_S8x4x80) slices_S8x4x80_S8x1x64_0_2_0) shapeCasts_S8x1x64_S8x64⟩,
     ⟨S8x65, shapeCast S8x65 (extractStridedSlice S8x1x65 ![0, 3, 0] (shapeCast S8x4x80 g shapeCasts_S32x80_S8x4x80) slices_S8x4x80_S8x1x65_0_3_0) shapeCasts_S8x1x65_S8x65⟩]
    concatenates_S8x64_S8x64_S8x64_S8x65_S8x257_d1

theorem ocell_ix2 (w : Fin 32) (j : Fin 80) : ocell w j = ix2 w j := by
  funext a
  match a with
  | 0 => rfl
  | 1 => rfl

theorem outF_apply (g : S32x80.Idx → BitVec 32) (b : Fin 8) (i : Fin 257) :
    ∃ w : Fin 32, ∃ j : Fin 80, j.val ≤ 64 ∧ w.val / 4 = b.val ∧ 64 * (w.val % 4) + j.val = i.val ∧ outF g (ix2 b i) = g (ocell w j) := by
  have hb := b.isLt
  have hi := i.isLt
  simp only [ocell_ix2]
  by_cases h0 : i.val < 64
  · refine ⟨⟨b.val * 4, by omega⟩, ⟨i.val, by omega⟩, by dsimp only; omega, by dsimp only; omega, by dsimp only; omega, ?_⟩
    pointwise [outF]
    rw [dif_pos h0]
  by_cases h1 : i.val - 64 < 64
  · refine ⟨⟨b.val * 4 + 1, by omega⟩, ⟨i.val - 64, by omega⟩, by dsimp only; omega, by dsimp only; omega, by dsimp only; omega, ?_⟩
    pointwise [outF]
    rw [dif_neg h0, dif_pos h1]
  by_cases h2 : i.val - 64 - 64 < 64
  · refine ⟨⟨b.val * 4 + 2, by omega⟩, ⟨i.val - 64 - 64, by omega⟩, by dsimp only; omega, by dsimp only; omega, by dsimp only; omega, ?_⟩
    pointwise [outF]
    rw [dif_neg h0, dif_neg h1, dif_pos h2]
  · refine ⟨⟨b.val * 4 + 3, by omega⟩, ⟨i.val - 64 - 64 - 64, by omega⟩, by dsimp only; omega, by dsimp only; omega, by dsimp only; omega, ?_⟩
    pointwise [outF]
    rw [dif_neg h0, dif_neg h1, dif_neg h2]

variable [FloatOps F]
variable (m : (ℓ : Loc nD τ sig) → Buf (Elt F) ℓ)

/-- The operations between the call and the concatenation; the concatenation. -/
def ops9 : List (HloOp τ sig (Elt F)) :=
  [StableHlo.reshape main_v1 main_v2 (rfl : (.i32 : EltTy) = .i32) shapeCasts_S32x80_S8x4x80,
   StableHlo.unary main_v2 main_v3 ((extractStridedSlice S8x1x64 ![0, 0, 0] · slices_S8x4x80_S8x1x64_0_0_0) : (⟨S8x4x80, .i32⟩ : BufTy).Contents (Elt F) → (⟨S8x1x64, .i32⟩ : BufTy).Contents (Elt F)),
   StableHlo.reshape main_v3 main_v4 (rfl : (.i32 : EltTy) = .i32) shapeCasts_S8x1x64_S8x64,
   StableHlo.unary main_v2 main_v5 ((extractStridedSlice S8x1x64 ![0, 1, 0] · slices_S8x4x80_S8x1x64_0_1_0) : (⟨S8x4x80, .i32⟩ : BufTy).Contents (Elt F) → (⟨S8x1x64, .i32⟩ : BufTy).Contents (Elt F)),
   StableHlo.reshape main_v5 main_v6 (rfl : (.i32 : EltTy) = .i32) shapeCasts_S8x1x64_S8x64,
   StableHlo.unary main_v2 main_v7 ((extractStridedSlice S8x1x64 ![0, 2, 0] · slices_S8x4x80_S8x1x64_0_2_0) : (⟨S8x4x80, .i32⟩ : BufTy).Contents (Elt F) → (⟨S8x1x64, .i32⟩ : BufTy).Contents (Elt F)),
   StableHlo.reshape main_v7 main_v8 (rfl : (.i32 : EltTy) = .i32) shapeCasts_S8x1x64_S8x64,
   StableHlo.unary main_v2 main_v9 ((extractStridedSlice S8x1x65 ![0, 3, 0] · slices_S8x4x80_S8x1x65_0_3_0) : (⟨S8x4x80, .i32⟩ : BufTy).Contents (Elt F) → (⟨S8x1x65, .i32⟩ : BufTy).Contents (Elt F)),
   StableHlo.reshape main_v9 main_v10 (rfl : (.i32 : EltTy) = .i32) shapeCasts_S8x1x65_S8x65]
def opCat : HloOp τ sig (Elt F) :=
  StableHlo.nary ![main_v4, main_v6, main_v8, main_v10] main_v11 (fun u => (concatenate S8x257 1 [⟨S8x64, (u 0 : (⟨S8x64, .i32⟩ : BufTy).Contents (Elt F))⟩, ⟨S8x64, (u 1 : (⟨S8x64, .i32⟩ : BufTy).Contents (Elt F))⟩, ⟨S8x64, (u 2 : (⟨S8x64, .i32⟩ : BufTy).Contents (Elt F))⟩, ⟨S8x65, (u 3 : (⟨S8x65, .i32⟩ : BufTy).Contents (Elt F))⟩] concatenates_S8x64_S8x64_S8x64_S8x65_S8x257_d1 : (⟨S8x257, .i32⟩ : BufTy).Contents (Elt F)))

theorem cat_out (X : Valuation τ sig (Elt F)) (x4 x6 x8 : S8x64.Idx → BitVec 32) (x10 : S8x65.Idx → BitVec 32)
    (h4 : X (Proc.devRef .tc main_v4) = x4) (h6 : X (Proc.devRef .tc main_v6) = x6) (h8 : X (Proc.devRef .tc main_v8) = x8)
    (h10 : X (Proc.devRef .tc main_v10) = x10) :
    (opCat (F := F)).result X (Proc.devRef .tc main_v11)
      = concatenate S8x257 1 [⟨S8x64, x4⟩, ⟨S8x64, x6⟩, ⟨S8x64, x8⟩, ⟨S8x65, x10⟩] concatenates_S8x64_S8x64_S8x64_S8x65_S8x257_d1 := by
  subst h4 h6 h8 h10
  unfold opCat
  exact nary_result _ _ _ _ _ X

theorem after_out (V : Valuation τ sig (Elt F)) : after (opsT (F := F)) V (Proc.devRef .tc main_v11) = outF (V v1') := by
  refine (cat_out (after ops9 V) _ _ _ _ ?_ ?_ ?_ ?_ : (opCat (F := F)).result (after ops9 V) (Proc.devRef .tc main_v11) = outF (V v1'))
  all_goals
    unfold ops9
    after_results
  all_goals rfl

theorem endV_out (d : Dev nD) (g : Buf (Elt F) (outLoc d)) : endV m d g (Proc.devRef .tc main_v11) = outF g := by
  unfold endV
  rw [after_out, V2_out]

theorem endV_arg (d : Dev nD) (g : Buf (Elt F) (outLoc d)) (b : Ref sig .tc) (h : b = main_arg0 ∨ b = main_arg1) :
    endV m d g (Proc.devRef .tc b) = m ((SparseCore.T d).loc b) := by
  unfold endV opsT
  rcases h with rfl | rfl
  · after_results
    rw [V2_ne m d g _ (devRef_ne_of_ne (show main_arg0 ≠ main_v1 by decide))]
    unfold V1
    rw [reshape_result_ne]
    · rfl
    · decide
  · after_results
    rw [V2_ne m d g _ (devRef_ne_of_ne (show main_arg1 ≠ main_v1 by decide))]
    unfold V1
    rw [reshape_result_ne]
    · rfl
    · decide

/-- The labels, flat. -/
def flatOf (x : S8x32768.Idx → BitVec 32) : S262144.Idx → BitVec 32 := shapeCast S262144 x shapeCasts_S8x32768_S262144

theorem flatV_eq (d : Dev nD) : flatV m d = flatOf (m ((SparseCore.T d).loc main_arg0)) := by
  unfold flatV V1 flatOf
  exact reshape_result _ _ _ _ _ _ (V0 m d)

theorem flatOf_cell (x : S8x32768.Idx → BitVec 32) (b : Fin 8) (n : ℕ) (hn : n < 32768) :
    flatOf x (fcell (32768 * b.val + n)) = x (ix2 b ⟨n, hn⟩) := by
  have hb := b.isLt
  have e : fcell (32768 * b.val + n) = ix1 ⟨32768 * b.val + n, by omega⟩ := by
    funext a
    apply Fin.ext
    rw [Fin.eq_zero a]
    exact Nat.mod_eq_of_lt (by omega)
  rw [e]
  pointwise [flatOf]
  refine congrArg x (congrArg₂ ix2 (Fin.ext ?_) (Fin.ext ?_)) <;> dsimp only <;> omega

theorem labels_eq (x : S8x32768.Idx → BitVec 32) (b : Fin 8) (n : ℕ) (hn : n < 32768) :
    labels (flatOf x) b.val n = (x (ix2 b ⟨n, hn⟩)).toNat := by
  unfold labels
  rw [flatOf_cell x b n hn]

theorem labOK_of (h : ∀ d : Dev nD, ∀ j : S8x32768.Idx, (m ((SparseCore.T d).loc main_arg0) j : BitVec 32).toNat < 128) : LabOK m := by
  intro d x
  rw [flatV_eq]
  exact h d _

/-- The program's result, cell by cell. -/
theorem out_cell (d : Dev nD) (g : Buf (Elt F) (outLoc d)) (hg : Good (flatV m d) g) (b : Fin 8) (i : Fin 257) :
    (endV m d g (Proc.devRef .tc main_v11) : S8x257.Idx → BitVec 32) (ix2 b i)
      = BitVec.ofNat 32 (mode (wcount (labels (flatOf (m ((SparseCore.T d).loc main_arg0))) b.val) i.val)) := by
  rw [endV_out]
  obtain ⟨w, j, hj, hw, hi, e⟩ := outF_apply g b i
  rw [e, hg w j hj, flatV_eq, result, hw, hi]

end Cert.Proof.Tile
-- ==== Proof.RefRun.lean ====
module

public import proofs.«01_k».proof.ReferenceIdeal
public import proofs.«01_k».proof.Proof.Gen.ReferenceIdeal
public import Idealize.ShloMosaic.Lib.StableHlo.Run
public import Idealize.ShloMosaic.Lib.Quiescent

/-!
# The reference's run

The reference is a straight line of host operations, cut here into four parts: the padded labels, the places of the windows,
the counts and the arg-max. Its run ends with each buffer at what the four parts leave there.
-/

@[expose] public section

noncomputable section

namespace Cert.Proof.Ref

open Cert.ReferenceIdeal Cert.ReferenceIdeal.Gen

open Idealize.ShloMosaic
open Idealize.ShloMosaic.StableHlo

variable {F : FTy → Type} [FloatOps F]

/-- The labels as floats, mirrored at both ends, and as integers again. -/
def opsA : List (HloOp τ sig (Elt F)) :=
  [StableHlo.unary main_arg0 main_v0 (sitofp .f32 : (⟨S8x32768, .i32⟩ : BufTy).Contents (Elt F) → (⟨S8x32768, .f32⟩ : BufTy).Contents (Elt F)),
   StableHlo.nullary main_c (constantI S_ 32 0#32),
   StableHlo.unary main_v0 main_call0_v0 ((extractStridedSlice S8x1 ![0, 0] · slices_S8x32768_S8x1_0_0) : (⟨S8x32768, .f32⟩ : BufTy).Contents (Elt F) → (⟨S8x1, .f32⟩ : BufTy).Contents (Elt F)),
   StableHlo.unary main_v0 main_call0_v1 ((extractStridedSlice S8x2048 ![0, 1] · slices_S8x32768_S8x2048_0_1) : (⟨S8x32768, .f32⟩ : BufTy).Contents (Elt F) → (⟨S8x2048, .f32⟩ : BufTy).Contents (Elt F)),
   StableHlo.unary main_call0_v1 main_call0_v2 (Host.reverse [1] : (⟨S8x2048, .f32⟩ : BufTy).Contents (Elt F) → (⟨S8x2048, .f32⟩ : BufTy).Contents (Elt F)),
   StableHlo.binary main_call0_v2 main_v0 main_call0_v3 ((fun a b => concatenate S8x34816 1 [⟨S8x2048, a⟩, ⟨S8x32768, b⟩] concatenates_S8x2048_S8x32768_S8x34816_d1) : (⟨S8x2048, .f32⟩ : BufTy).Contents (Elt F) → (⟨S8x32768, .f32⟩ : BufTy).Contents (Elt F) → (⟨S8x34816, .f32⟩ : BufTy).Contents (Elt F)),
   StableHlo.unary main_call0_v3 main_call0_v4 ((extractStridedSlice S8x1 ![0, 34815] · slices_S8x34816_S8x1_0_34815) : (⟨S8x34816, .f32⟩ : BufTy).Contents (Elt F) → (⟨S8x1, .f32⟩ : BufTy).Contents (Elt F)),
   StableHlo.unary main_call0_v3 main_call0_v5 ((extractStridedSlice S8x2048 ![0, 32767] · slices_S8x34816_S8x2048_0_32767) : (⟨S8x34816, .f32⟩ : BufTy).Contents (Elt F) → (⟨S8x2048, .f32⟩ : BufTy).Contents (Elt F)),
   StableHlo.unary main_call0_v5 main_call0_v6 (Host.reverse [1] : (⟨S8x2048, .f32⟩ : BufTy).Contents (Elt F) → (⟨S8x2048, .f32⟩ : BufTy).Contents (Elt F)),
   StableHlo.binary main_call0_v3 main_call0_v6 main_v1 ((fun a b => concatenate S8x36864 1 [⟨S8x34816, a⟩, ⟨S8x2048, b⟩] concatenates_S8x34816_S8x2048_S8x36864_d1) : (⟨S8x34816, .f32⟩ : BufTy).Contents (Elt F) → (⟨S8x2048, .f32⟩ : BufTy).Contents (Elt F) → (⟨S8x36864, .f32⟩ : BufTy).Contents (Elt F)),
   StableHlo.unary main_v1 main_v2 (fptosi 32 : (⟨S8x36864, .f32⟩ : BufTy).Contents (Elt F) → (⟨S8x36864, .i32⟩ : BufTy).Contents (Elt F))]

/-- The places of the windows. -/
def opsB : List (HloOp τ sig (Elt F)) :=
  [StableHlo.nullary main_v3 (iotaInDim S257 32 0),
   StableHlo.unary main_v3 main_v4 (broadcastInDim S257x1 ![0] bcast_S257_S257x1_0 : (⟨S257, .i32⟩ : BufTy).Contents (Elt F) → (⟨S257x1, .i32⟩ : BufTy).Contents (Elt F)),
   StableHlo.nullary main_c_0 (constantI S_ 32 128#32),
   StableHlo.unary main_c_0 main_v5 (broadcastInDim S257x1 ![] bcast_S_S257x1 : (⟨S_, .i32⟩ : BufTy).Contents (Elt F) → (⟨S257x1, .i32⟩ : BufTy).Contents (Elt F)),
   StableHlo.binary main_v4 main_v5 main_v6 (muli : (⟨S257x1, .i32⟩ : BufTy).Contents (Elt F) → (⟨S257x1, .i32⟩ : BufTy).Contents (Elt F) → (⟨S257x1, .i32⟩ : BufTy).Contents (Elt F)),
   StableHlo.nullary main_v7 (iotaInDim S4096 32 0),
   StableHlo.unary main_v7 main_v8 (broadcastInDim S1x4096 ![1] bcast_S4096_S1x4096_1 : (⟨S4096, .i32⟩ : BufTy).Contents (Elt F) → (⟨S1x4096, .i32⟩ : BufTy).Contents (Elt F)),
   StableHlo.unary main_v6 main_v9 (broadcastInDim S257x4096 ![0, 1] bcast_S257x1_S257x4096_0_1 : (⟨S257x1, .i32⟩ : BufTy).Contents (Elt F) → (⟨S257x4096, .i32⟩ : BufTy).Contents (Elt F)),
   StableHlo.unary main_v8 main_v10 (broadcastInDim S257x4096 ![0, 1] bcast_S1x4096_S257x4096_0_1 : (⟨S1x4096, .i32⟩ : BufTy).Contents (Elt F) → (⟨S257x4096, .i32⟩ : BufTy).Contents (Elt F)),
   StableHlo.binary main_v9 main_v10 main_v11 (addi : (⟨S257x4096, .i32⟩ : BufTy).Contents (Elt F) → (⟨S257x4096, .i32⟩ : BufTy).Contents (Elt F) → (⟨S257x4096, .i32⟩ : BufTy).Contents (Elt F)),
   StableHlo.nullary main_c_1 (constantI S_ 32 0#32),
   StableHlo.unary main_c_1 main_v12 (broadcastInDim S257x4096 ![] bcast_S_S257x4096 : (⟨S_, .i32⟩ : BufTy).Contents (Elt F) → (⟨S257x4096, .i32⟩ : BufTy).Contents (Elt F)),
   StableHlo.binary main_v11 main_v12 main_v13 (cmpi .slt : (⟨S257x4096, .i32⟩ : BufTy).Contents (Elt F) → (⟨S257x4096, .i32⟩ : BufTy).Contents (Elt F) → (⟨S257x4096, .i1⟩ : BufTy).Contents (Elt F)),
   StableHlo.nullary main_c_2 (constantI S_ 32 36864#32),
   StableHlo.unary main_c_2 main_v14 (broadcastInDim S257x4096 ![] bcast_S_S257x4096 : (⟨S_, .i32⟩ : BufTy).Contents (Elt F) → (⟨S257x4096, .i32⟩ : BufTy).Contents (Elt F)),
   StableHlo.binary main_v11 main_v14 main_v15 (addi : (⟨S257x4096, .i32⟩ : BufTy).Contents (Elt F) → (⟨S257x4096, .i32⟩ : BufTy).Contents (Elt F) → (⟨S257x4096, .i32⟩ : BufTy).Contents (Elt F)),
   StableHlo.ternary main_v13 main_v15 main_v11 main_v16 (select : (⟨S257x4096, .i1⟩ : BufTy).Contents (Elt F) → (⟨S257x4096, .i32⟩ : BufTy).Contents (Elt F) → (⟨S257x4096, .i32⟩ : BufTy).Contents (Elt F) → (⟨S257x4096, .i32⟩ : BufTy).Contents (Elt F)),
   StableHlo.unary main_v16 main_v17 (broadcastInDim S257x4096x1 ![0, 1] bcast_S257x4096_S257x4096x1_0_1 : (⟨S257x4096, .i32⟩ : BufTy).Contents (Elt F) → (⟨S257x4096x1, .i32⟩ : BufTy).Contents (Elt F))]

/-- The counts. -/
def opsC : List (HloOp τ sig (Elt F)) :=
  [StableHlo.binary main_v2 main_v17 main_v18 ((fun x i => Host.gather gather_S8x36864_S257x4096x1_S8x257x4096_0_1_n_n_1_2_81 x i) : (⟨S8x36864, .i32⟩ : BufTy).Contents (Elt F) → (⟨S257x4096x1, .i32⟩ : BufTy).Contents (Elt F) → (⟨S8x257x4096, .i32⟩ : BufTy).Contents (Elt F)),
   StableHlo.unary main_v18 main_v19 (broadcastInDim S8x1x257x4096 ![0, 2, 3] bcast_S8x257x4096_S8x1x257x4096_0_2_3 : (⟨S8x257x4096, .i32⟩ : BufTy).Contents (Elt F) → (⟨S8x1x257x4096, .i32⟩ : BufTy).Contents (Elt F)),
   StableHlo.nullary main_v20 (iotaInDim S128 32 0),
   StableHlo.unary main_v20 main_v21 (broadcastInDim S1x128x1x1 ![1] bcast_S128_S1x128x1x1_1 : (⟨S128, .i32⟩ : BufTy).Contents (Elt F) → (⟨S1x128x1x1, .i32⟩ : BufTy).Contents (Elt F)),
   StableHlo.unary main_v19 main_v22 (broadcastInDim S8x128x257x4096 ![0, 1, 2, 3] bcast_S8x1x257x4096_S8x128x257x4096_0_1_2_3 : (⟨S8x1x257x4096, .i32⟩ : BufTy).Contents (Elt F) → (⟨S8x128x257x4096, .i32⟩ : BufTy).Contents (Elt F)),
   StableHlo.unary main_v21 main_v23 (broadcastInDim S8x128x257x4096 ![0, 1, 2, 3] bcast_S1x128x1x1_S8x128x257x4096_0_1_2_3 : (⟨S1x128x1x1, .i32⟩ : BufTy).Contents (Elt F) → (⟨S8x128x257x4096, .i32⟩ : BufTy).Contents (Elt F)),
   StableHlo.binary main_v22 main_v23 main_v24 (cmpi .eq : (⟨S8x128x257x4096, .i32⟩ : BufTy).Contents (Elt F) → (⟨S8x128x257x4096, .i32⟩ : BufTy).Contents (Elt F) → (⟨S8x128x257x4096, .i1⟩ : BufTy).Contents (Elt F)),
   StableHlo.unary main_v24 main_v25 (uitofp .f32 : (⟨S8x128x257x4096, .i1⟩ : BufTy).Contents (Elt F) → (⟨S8x128x257x4096, .f32⟩ : BufTy).Contents (Elt F)),
   StableHlo.reshape main_arg1 main_v26 (rfl : (.f32 : EltTy) = .f32) shapeCasts_S1x1x1x4096_S4096,
   StableHlo.binary main_v25 main_v26 main_v27 ((fun l r => Host.dotGeneral dot_S8x128x257x4096_S4096_S8x128x257_3_0_012_n_n_n none l r) : (⟨S8x128x257x4096, .f32⟩ : BufTy).Contents (Elt F) → (⟨S4096, .f32⟩ : BufTy).Contents (Elt F) → (⟨S8x128x257, .f32⟩ : BufTy).Contents (Elt F))]

/-- The arg-max of the counts. -/
def opsD : List (HloOp τ sig (Elt F)) :=
  [StableHlo.nullary main_call1_v0 (iotaInDim S8x128x257 32 1),
   StableHlo.nullary main_call1_cst (constant S_ .f32 0xFF800000#32),
   StableHlo.nullary main_call1_c (constantI S_ 32 0#32),
   StableHlo.quaternary main_v27 main_call1_v0 main_call1_cst main_call1_c main_call1_v1_0 ((fun x y u v j => (Host.argReduce reducer_argmax_f32_i32 x y u v reducesTo_S8x128x257_S8x257_d1 h_S_ j).1) : (⟨S8x128x257, .f32⟩ : BufTy).Contents (Elt F) → (⟨S8x128x257, .i32⟩ : BufTy).Contents (Elt F) → (⟨S_, .f32⟩ : BufTy).Contents (Elt F) → (⟨S_, .i32⟩ : BufTy).Contents (Elt F) → (⟨S8x257, .f32⟩ : BufTy).Contents (Elt F)),
   StableHlo.quaternary main_v27 main_call1_v0 main_call1_cst main_call1_c main_v28 ((fun x y u v j => (Host.argReduce reducer_argmax_f32_i32 x y u v reducesTo_S8x128x257_S8x257_d1 h_S_ j).2) : (⟨S8x128x257, .f32⟩ : BufTy).Contents (Elt F) → (⟨S8x128x257, .i32⟩ : BufTy).Contents (Elt F) → (⟨S_, .f32⟩ : BufTy).Contents (Elt F) → (⟨S_, .i32⟩ : BufTy).Contents (Elt F) → (⟨S8x257, .i32⟩ : BufTy).Contents (Elt F))]

/-- All of it. -/
def ops : List (HloOp τ sig (Elt F)) := opsA ++ (opsB ++ (opsC ++ opsD))

set_option maxHeartbeats 2000000 in
theorem main_eq (d : Dev nD) : main (F := F) d = seq ops := by
  unfold ops
  simp only [seq_append]
  simp only [main, fn_pad.body, fn_flip.body, fn_argmax.body, opsA, opsB, opsC, opsD, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem forall_append {α : Type*} {p : α → Prop} {l₁ l₂ : List α} (h₁ : l₁.Forall p) (h₂ : l₂.Forall p) : (l₁ ++ l₂).Forall p :=
  List.forall_iff_forall_mem.2 fun x hx => (List.mem_append.1 hx).elim (List.forall_iff_forall_mem.1 h₁ x) (List.forall_iff_forall_mem.1 h₂ x)

theorem ops_sub : (ops : List (HloOp τ sig (Elt F))).Forall fun op => op.bufs ⊆ tcRefs τ sig := by
  refine forall_append ?_ (forall_append ?_ (forall_append ?_ ?_))
  · unfold opsA; simp
  · unfold opsB; simp
  · unfold opsC; simp
  · unfold opsD; simp

theorem ops_fresh : (ops : List (HloOp τ sig (Elt F))).Forall fun op => op.fresh = ∅ := by
  refine forall_append ?_ (forall_append ?_ (forall_append ?_ ?_))
  · unfold opsA; repeat' constructor
  · unfold opsB; repeat' constructor
  · unfold opsC; repeat' constructor
  · unfold opsD; repeat' constructor

/-- The run: every buffer ends at what the operations leave there. -/
theorem run_main (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.1 ops_fresh)

theorem sem_zero (s : MemSt nD τ sig (Elt F)) : s.sem = fun _ => 0 := sem_eq_zero_of_no_sems (by decide) s

/-! ## What the parts leave -/

def wrA : List (Ref sig .tc) := [main_v0, main_c, main_call0_v0, main_call0_v1, main_call0_v2, main_call0_v3, main_call0_v4, main_call0_v5, main_call0_v6, main_v1, main_v2]
def wrB : List (Ref sig .tc) := [main_v3, main_v4, main_c_0, main_v5, main_v6, main_v7, main_v8, main_v9, main_v10, main_v11, main_c_1, main_v12, main_v13, main_c_2, main_v14, main_v15, main_v16, main_v17]
def wrC : List (Ref sig .tc) := [main_v18, main_v19, main_v20, main_v21, main_v22, main_v23, main_v24, main_v25, main_v26, main_v27]
def wrD : List (Ref sig .tc) := [main_call1_v0, main_call1_cst, main_call1_c, main_call1_v1_0, main_v28]

theorem keepA (V : Valuation τ sig (Elt F)) {r : Ref sig .tc} (hr : r ∉ wrA) : after opsA V (Proc.devRef .tc r) = V (Proc.devRef .tc r) :=
  after_of_writes_sub (W := wrA) opsA V (forall_writes_sub_of_map rfl) hr
theorem keepB (V : Valuation τ sig (Elt F)) {r : Ref sig .tc} (hr : r ∉ wrB) : after opsB V (Proc.devRef .tc r) = V (Proc.devRef .tc r) :=
  after_of_writes_sub (W := wrB) opsB V (forall_writes_sub_of_map rfl) hr
theorem keepC (V : Valuation τ sig (Elt F)) {r : Ref sig .tc} (hr : r ∉ wrC) : after opsC V (Proc.devRef .tc r) = V (Proc.devRef .tc r) :=
  after_of_writes_sub (W := wrC) opsC V (forall_writes_sub_of_map rfl) hr
theorem keepD (V : Valuation τ sig (Elt F)) {r : Ref sig .tc} (hr : r ∉ wrD) : after opsD V (Proc.devRef .tc r) = V (Proc.devRef .tc r) :=
  after_of_writes_sub (W := wrD) opsD V (forall_writes_sub_of_map rfl) hr

theorem after_parts (l₁ l₂ : List (HloOp τ sig (Elt F))) (V : Valuation τ sig (Elt F)) : after (l₁ ++ l₂) V = after l₂ (after l₁ V) := by
  induction l₁ generalizing V with
  | nil => rfl
  | cons op l ih => exact ih _

/-- The arguments are as they were. -/
theorem keep (V : Valuation τ sig (Elt F)) {r : Ref sig .tc} (hA : r ∉ wrA) (hB : r ∉ wrB) (hC : r ∉ wrC) (hD : r ∉ wrD) :
    after ops V (Proc.devRef .tc r) = V (Proc.devRef .tc r) := by
  unfold ops
  rw [after_parts, after_parts, after_parts, keepD _ hD, keepC _ hC, keepB _ hB, keepA _ hA]

/-- The front of a row, mirrored, and the row. -/
def frontF (x : S8x32768.Idx → F .f32) : S8x34816.Idx → F .f32 :=
  concatenate S8x34816 1 [⟨S8x2048, Host.reverse [1] (extractStridedSlice S8x2048 ![0, 1] x slices_S8x32768_S8x2048_0_1)⟩, ⟨S8x32768, x⟩]
    concatenates_S8x2048_S8x32768_S8x34816_d1

/-- The same and the back of it, mirrored. -/
def padF (x : S8x32768.Idx → F .f32) : S8x36864.Idx → F .f32 :=
  concatenate S8x36864 1 [⟨S8x34816, frontF x⟩, ⟨S8x2048, Host.reverse [1] (extractStridedSlice S8x2048 ![0, 32767] (frontF x) slices_S8x34816_S8x2048_0_32767)⟩]
    concatenates_S8x34816_S8x2048_S8x36864_d1

/-- Place `k` of window `i`. -/
def placeF : S257x4096.Idx → BitVec 32 :=
  addi (broadcastInDim S257x4096 ![0, 1] bcast_S257x1_S257x4096_0_1
      (muli (broadcastInDim S257x1 ![0] bcast_S257_S257x1_0 (iotaInDim S257 32 0)) (broadcastInDim S257x1 ![] bcast_S_S257x1 (constantI S_ 32 128#32))))
    (broadcastInDim S257x4096 ![0, 1] bcast_S1x4096_S257x4096_0_1 (broadcastInDim S1x4096 ![1] bcast_S4096_S1x4096_1 (iotaInDim S4096 32 0)))

/-- The same, counted from the end where negative. -/
def idxF : S257x4096x1.Idx → BitVec 32 :=
  broadcastInDim S257x4096x1 ![0, 1] bcast_S257x4096_S257x4096x1_0_1
    (select (cmpi .slt placeF (broadcastInDim S257x4096 ![] bcast_S_S257x4096 (constantI S_ 32 0#32)))
      (addi placeF (broadcastInDim S257x4096 ![] bcast_S_S257x4096 (constantI S_ 32 36864#32))) placeF)

/-- One where the label of row `b`, window `i`, place `k` is `c`. -/
def hotF (y : S8x36864.Idx → BitVec 32) (ix : S257x4096x1.Idx → BitVec 32) : S8x128x257x4096.Idx → F .f32 :=
  uitofp .f32 (cmpi .eq
    (broadcastInDim S8x128x257x4096 ![0, 1, 2, 3] bcast_S8x1x257x4096_S8x128x257x4096_0_1_2_3
      (broadcastInDim S8x1x257x4096 ![0, 2, 3] bcast_S8x257x4096_S8x1x257x4096_0_2_3
        (Host.gather gather_S8x36864_S257x4096x1_S8x257x4096_0_1_n_n_1_2_81 y ix)))
    (broadcastInDim S8x128x257x4096 ![0, 1, 2, 3] bcast_S1x128x1x1_S8x128x257x4096_0_1_2_3
      (broadcastInDim S1x128x1x1 ![1] bcast_S128_S1x128x1x1_1 (iotaInDim S128 32 0))))

/-- The weighted counts. -/
def cntF (y : S8x36864.Idx → BitVec 32) (ix : S257x4096x1.Idx → BitVec 32) (w : S1x1x1x4096.Idx → F .f32) : S8x128x257.Idx → F .f32 :=
  Host.dotGeneral dot_S8x128x257x4096_S4096_S8x128x257_3_0_012_n_n_n none (hotF y ix) (shapeCast S4096 w shapeCasts_S1x1x1x4096_S4096)

/-- The label of the largest count. -/
def argF (x : S8x128x257.Idx → F .f32) : S8x257.Idx → BitVec 32 := fun j =>
  (Host.argReduce reducer_argmax_f32_i32 x (iotaInDim S8x128x257 32 1) (constant S_ .f32 0xFF800000#32) (constantI S_ 32 0#32)
    reducesTo_S8x128x257_S8x257_d1 h_S_ j).2

set_option maxHeartbeats 2000000 in
theorem leftA (V : Valuation τ sig (Elt F)) :
    after opsA V (Proc.devRef .tc main_v2) = fptosi 32 (padF (F := F) (sitofp .f32 (V (Proc.devRef .tc main_arg0) : S8x32768.Idx → BitVec 32))) := by
  unfold opsA padF frontF
  after_results

set_option maxHeartbeats 2000000 in
theorem leftB (V : Valuation τ sig (Elt F)) : after (opsB (F := F)) V (Proc.devRef .tc main_v17) = idxF := by
  unfold opsB idxF placeF
  after_results

set_option maxHeartbeats 2000000 in
theorem leftC (V : Valuation τ sig (Elt F)) :
    after opsC V (Proc.devRef .tc main_v27)
      = cntF (V (Proc.devRef .tc main_v2) : S8x36864.Idx → BitVec 32) (V (Proc.devRef .tc main_v17)) (V (Proc.devRef .tc main_arg1)) := by
  unfold opsC cntF hotF
  after_results
  rfl

set_option maxHeartbeats 2000000 in
theorem leftD (V : Valuation τ sig (Elt F)) :
    after opsD V (Proc.devRef .tc main_v28) = argF (V (Proc.devRef .tc main_v27)) := by
  unfold opsD argF
  after_results

/-- The reference's result. -/
theorem left (V : Valuation τ sig (Elt F)) :
    after ops V (Proc.devRef .tc main_v28)
      = argF (cntF (F := F) (fptosi 32 (padF (F := F) (sitofp .f32 (V (Proc.devRef .tc main_arg0) : S8x32768.Idx → BitVec 32)))) idxF (V (Proc.devRef .tc main_arg1))) := by
  unfold ops
  rw [after_parts, after_parts, after_parts, leftD, leftC, leftB, keepB _ (by decide), leftA, keepB _ (by decide), keepA _ (by decide)]

end Cert.Proof.Ref
-- ==== Proof.RefValue.lean ====
module

public import proofs.«01_k».proof.Proof.RefRun
public import proofs.«01_k».proof.Proof.Window
public import Idealize.ShloMosaic.Lib.Pointwise
public import Idealize.ShloMosaic.PureOps.Ideal.Laws

/-!
# The reference's result

At exact arithmetic, and with every weight one, the reference's result at row `b` and window `i` is the mode of that window.
-/

@[expose] public section

noncomputable section

namespace Cert.Proof.Ref

open Cert.ReferenceIdeal Cert.ReferenceIdeal.Gen

open Idealize.ShloMosaic
open Idealize.ShloMosaic.StableHlo
open Cert.Proof.Count Cert.Proof.Tile

variable {F : FTy → Type} [FloatOps F]

/-- The cell of a row at place `p` of the mirrored row. -/
def src (p : ℕ) : ℕ := if p < 2048 then 2048 - p else if p < 34816 then p - 2048 else 67582 - p

theorem src_lt {p : ℕ} (h : p < 36864) : src p < 32768 := by unfold src; split_ifs <;> omega

theorem mir_src (G : ℕ → ℕ) (p : ℕ) : mir G p = G (src p) := by unfold mir src; split_ifs <;> rfl

theorem padF_apply (x : S8x32768.Idx → F .f32) (b : Fin 8) (p : Fin 36864) : padF x (ix2 b p) = x (ix2 b ⟨src p.val, src_lt p.isLt⟩) := by
  have hp := p.isLt
  pointwise [padF, frontF]
  by_cases h : p.val < 34816
  · rw [dif_pos h]
    by_cases h1 : p.val < 2048
    · rw [dif_pos h1]
      refine congrArg x (funext fun a => Fin.ext ?_)
      match a with
      | ⟨0, _⟩ => rfl
      | ⟨1, _⟩ =>
        show 1 + (2048 - (p.val + 1)) = src p.val
        unfold src
        rw [if_pos h1]
        omega
    · rw [dif_neg h1]
      refine congrArg (fun q => x (ix2 b q)) (Fin.ext ?_)
      show p.val - 2048 = src p.val
      unfold src
      rw [if_neg h1, if_pos h]
  · rw [dif_neg h]
    refine (dif_neg (show ¬ (32767 + (2048 - (p.val - 34816 + 1)) < 2048) by omega)).trans ?_
    refine congrArg x (funext fun a => Fin.ext ?_)
    match a with
    | ⟨0, _⟩ => exact congrArg Fin.val (if_neg (t := b.rev) (show (0 : Fin 2) ∉ ([1] : List (Fin 2)) by decide))
    | ⟨1, _⟩ =>
      show 32767 + (2048 - (p.val - 34816 + 1)) - 2048 = src p.val
      unfold src
      rw [if_neg (by omega), if_neg h]
      omega

theorem place_lt (i : Fin 257) (k : Fin 4096) : 128 * i.val + k.val < 36864 := by omega

theorem idxF_apply (i : Fin 257) (k : Fin 4096) : idxF (ix3 i k 0) = BitVec.ofNat 32 (128 * i.val + k.val) := by
  have hi := i.isLt
  have hk := k.isLt
  pointwise [idxF, placeF]
  have e : IntOp.addi (IntOp.muli (BitVec.ofNat 32 i.val) 128#32) (BitVec.ofNat 32 k.val) = BitVec.ofNat 32 (128 * i.val + k.val) := by
    show BitVec.ofNat 32 i.val * BitVec.ofNat 32 128 + BitVec.ofNat 32 k.val = _
    rw [← BitVec.ofNat_mul, ← BitVec.ofNat_add, Nat.mul_comm]
  rw [e]
  have n : IntOp.cmpi .slt (BitVec.ofNat 32 (128 * i.val + k.val)) 0#32 = 0#1 := by
    simp only [IntOp.cmpi, BitVec.slt_eq_decide, BitVec.toInt_eq_toNat_cond, BitVec.toNat_ofNat, Nat.reducePow, Nat.reduceMod]
    rw [Nat.mod_eq_of_lt (by omega), decide_eq_false (by split_ifs <;> omega)]
    rfl
  rw [n]
  rfl

/-- The gather reads row `b` at the place its window names. -/
theorem gather_apply (y : S8x36864.Idx → BitVec 32) (ix : S257x4096x1.Idx → BitVec 32) (b : Fin 8) (i : Fin 257) (k : Fin 4096) :
    Host.gather gather_S8x36864_S257x4096x1_S8x257x4096_0_1_n_n_1_2_81 y ix (ix3 b i k)
      = y (ix2 b ⟨min (ix (ix3 i k 0)).toInt.toNat 36863, by omega⟩) := by
  unfold Host.gather
  refine congrArg y (funext fun a => Fin.ext ?_)
  show GatherDims.start _ _ _ a + GatherDims.batchCoord _ _ a + GatherDims.offCoord _ _ a = _
  rw [GatherDims.batchCoord_eq_zero _ _ _ (fun h => absurd h (List.not_mem_nil (a := a))), Nat.add_zero]
  match a with
  | ⟨0, _⟩ =>
    have e : GatherDims.start gather_S8x36864_S257x4096x1_S8x257x4096_0_1_n_n_1_2_81 (ix3 b i k) ix (0 : Fin 2) = 0 := by
      unfold GatherDims.start
      exact dif_neg (show (0 : Fin 2) ∉ ([1] : List (Fin 2)) by decide)
    refine (congrArg (· + _) e).trans ?_
    refine (Nat.zero_add _).trans ?_
    refine (dif_pos (show (0 : Fin 2) ∈ (Shape.kept S8x36864 ([1] ++ [])) by decide)).trans ?_
    rfl
  | ⟨1, _⟩ =>
    refine (congrArg (_ + ·) (GatherDims.offCoord_eq_zero _ _ _ (fun h => ((GatherDims.mem_sKept _ _).mp h).1 (List.mem_singleton.mpr rfl)))).trans ?_
    refine (Nat.add_zero _).trans ?_
    refine (dif_pos (show (1 : Fin 2) ∈ ([1] : List (Fin 2)) by decide)).trans ?_
    refine congrArg (fun q => min (ix q).toInt.toNat 36863) ?_
    funext c
    refine Fin.ext ?_
    match c with
    | ⟨0, _⟩ => rfl
    | ⟨1, _⟩ => rfl
    | ⟨2, _⟩ => rfl

theorem gather_idx (y : S8x36864.Idx → BitVec 32) (b : Fin 8) (i : Fin 257) (k : Fin 4096) :
    Host.gather gather_S8x36864_S257x4096x1_S8x257x4096_0_1_n_n_1_2_81 y idxF (ix3 b i k) = y (ix2 b ⟨128 * i.val + k.val, place_lt i k⟩) := by
  have h := place_lt i k
  rw [gather_apply]
  refine congrArg (fun q => y (ix2 b q)) (Fin.ext ?_)
  show min (idxF (ix3 i k 0)).toInt.toNat 36863 = _
  rw [idxF_apply, BitVec.toInt_eq_toNat_cond, BitVec.toNat_ofNat, Nat.mod_eq_of_lt (by omega), if_pos (by omega)]
  show min (128 * i.val + k.val) 36863 = 128 * i.val + k.val
  omega

/-- A label, made a float and an integer again, is itself. -/
theorem label_back {v : BitVec 32} (h : v.toNat < 128) : FloatOps.fptosi (F := Ideal) (φ := .f32) 32 (FloatOps.sitofp (F := Ideal) .f32 v) = v := by
  show BitVec.ofInt 32 (Ideal.toIntClamped (-(2 ^ (32 - 1) : Nat)) ((2 ^ (32 - 1) : Nat) - 1) ((v.toInt : ℝ) : EReal)) = v
  have e : v.toInt = (v.toNat : ℤ) := by rw [BitVec.toInt_eq_toNat_cond, if_pos (by omega)]
  rw [Ideal.toIntClamped_coe, Int.floor_intCast, Int.ceil_intCast, ite_self, e]
  have h2 : max (-((2 ^ (32 - 1) : Nat) : ℤ)) (min (((2 ^ (32 - 1) : Nat) : ℤ) - 1) (v.toNat : ℤ)) = (v.toNat : ℤ) := by
    norm_num; omega
  rw [h2, BitVec.ofInt_natCast, BitVec.ofNat_toNat, BitVec.setWidth_eq]

theorem hotF_apply (y : S8x36864.Idx → BitVec 32) (b : Fin 8) (c : Fin 128) (i : Fin 257) (k : Fin 4096) :
    hotF (F := Ideal) y idxF (ix4 b c i k)
      = (((if (y (ix2 b ⟨128 * i.val + k.val, place_lt i k⟩)).toNat = c.val then 1 else 0 : ℕ) : ℝ) : EReal) := by
  pointwise [hotF]
  rw [gather_idx]
  show (((IntOp.cmpi .eq _ _ : BitVec 1).toNat : ℝ) : EReal) = _
  have e : ∀ v : BitVec 32, (IntOp.cmpi .eq v (BitVec.ofNat 32 c.val)).toNat = if v.toNat = c.val then 1 else 0 := by
    intro v
    have hc := c.isLt
    by_cases h : v.toNat = c.val
    · rw [if_pos h]
      have : v = BitVec.ofNat 32 c.val := by rw [← h, BitVec.ofNat_toNat, BitVec.setWidth_eq]
      subst this
      simp [IntOp.cmpi]
    · rw [if_neg h]
      have : v ≠ BitVec.ofNat 32 c.val := by
        rintro rfl
        apply h
        rw [BitVec.toNat_ofNat]
        omega
      simp [IntOp.cmpi, this]
  rw [e]

theorem sum_coe (n : ℕ) (f : Fin n → ℕ) : ∑ k, (((f k : ℕ) : ℝ) : EReal) = (((∑ k, f k : ℕ) : ℝ) : EReal) := by
  induction n with
  | zero => simp
  | succ n ih => rw [Fin.sum_univ_succ, Fin.sum_univ_succ, ih]; push_cast; rfl

theorem cntF_apply (y : S8x36864.Idx → BitVec 32) (w : S1x1x1x4096.Idx → Ideal .f32) (hw : ∀ j, w j = (1 : EReal)) (G : ℕ → ℕ) (b : Fin 8)
    (hG : ∀ p : Fin 36864, (y (ix2 b p)).toNat = mir G p.val) (c : Fin 128) (i : Fin 257) :
    cntF (F := Ideal) y idxF w (ix3 b c i) = ((wcount G i.val c.val : ℝ) : EReal) := by
  pointwise [cntF]
  simp only [hw, hotF_apply, hG]
  refine Eq.trans (Finset.sum_congr rfl fun k _ => mul_one _) ?_
  rw [sum_coe]
  unfold wcount
  rw [Finset.sum_range]

/-- The second pair comes first: a larger count, or the same count at no larger a label. -/
def Beats (p q : Ideal .f32 × BitVec 32) : Prop := (p.1 : EReal) < q.1 ∨ ((p.1 : EReal) = q.1 ∧ q.2.toInt ≤ p.2.toInt)

theorem Beats.refl (p : Ideal .f32 × BitVec 32) : Beats p p := Or.inr ⟨rfl, le_rfl⟩

theorem Beats.trans {p q r : Ideal .f32 × BitVec 32} (h₁ : Beats p q) (h₂ : Beats q r) : Beats p r := by
  rcases h₁ with h₁ | ⟨e₁, h₁⟩ <;> rcases h₂ with h₂ | ⟨e₂, h₂⟩
  · exact Or.inl (lt_trans h₁ h₂)
  · exact Or.inl (lt_of_lt_of_eq h₁ e₂)
  · exact Or.inl (lt_of_eq_of_lt e₁ h₂)
  · exact Or.inr ⟨e₁.trans e₂, h₂.trans h₁⟩

/-- The reducer keeps the first of two pairs. -/
theorem reducer_spec (p q : Ideal .f32 × BitVec 32) :
    (reducer_argmax_f32_i32 p q = p ∨ reducer_argmax_f32_i32 p q = q) ∧ Beats p (reducer_argmax_f32_i32 p q) ∧ Beats q (reducer_argmax_f32_i32 p q) := by
  obtain ⟨a, i⟩ := p
  obtain ⟨c, j⟩ := q
  have form : ∀ (g e : Bool) (_ : decide ((c : EReal) < a) = g) (_ : decide ((a : EReal) = c) = e),
      reducer_argmax_f32_i32 (F := Ideal) (a, i) (c, j)
        = (Scalar.select (BitVec.ofBool g) a c, Scalar.select (BitVec.ofBool (g || (e && i.slt j))) i j) := by
    intro g e hg he
    have hn : decide ((a : EReal) ≠ a) = false := decide_eq_false (not_not.2 rfl)
    simp only [reducer_argmax_f32_i32, Ideal.cmpf_def, Ideal.cmp]
    erw [hg, hn, he]
    simp only [IntOp.cmpi]
    cases g <;> cases e <;> cases i.slt j <;> rfl
  rcases lt_trichotomy (a : EReal) c with h | h | h
  · have e : reducer_argmax_f32_i32 (F := Ideal) (a, i) (c, j) = (c, j) := by
      rw [form false false (decide_eq_false (not_lt.2 h.le)) (decide_eq_false h.ne)]
      rfl
    rw [e]
    exact ⟨Or.inr rfl, Or.inl h, Beats.refl _⟩
  · by_cases hij : i.toInt < j.toInt
    · have e : reducer_argmax_f32_i32 (F := Ideal) (a, i) (c, j) = (a, i) := by
        rw [form false true (decide_eq_false (not_lt.2 h.le)) (decide_eq_true h), BitVec.slt_eq_decide, decide_eq_true hij]
        exact Prod.ext h.symm rfl
      rw [e]
      exact ⟨Or.inl rfl, Beats.refl _, Or.inr ⟨h.symm, hij.le⟩⟩
    · have e : reducer_argmax_f32_i32 (F := Ideal) (a, i) (c, j) = (c, j) := by
        rw [form false true (decide_eq_false (not_lt.2 h.le)) (decide_eq_true h), BitVec.slt_eq_decide, decide_eq_false hij]
        rfl
      rw [e]
      exact ⟨Or.inr rfl, Or.inr ⟨h, not_lt.1 hij⟩, Beats.refl _⟩
  · have e : reducer_argmax_f32_i32 (F := Ideal) (a, i) (c, j) = (a, i) := by
      rw [form true false (decide_eq_true h) (decide_eq_false h.ne')]
      rfl
    rw [e]
    exact ⟨Or.inl rfl, Beats.refl _, Or.inl h⟩

theorem foldl_spec (l : List (Ideal .f32 × BitVec 32)) (p : Ideal .f32 × BitVec 32) :
    l.foldl reducer_argmax_f32_i32 p ∈ p :: l ∧ ∀ q ∈ p :: l, Beats q (l.foldl reducer_argmax_f32_i32 p) := by
  induction l generalizing p with
  | nil => exact ⟨List.mem_cons_self, fun q hq => by rw [List.mem_singleton.1 hq]; exact Beats.refl _⟩
  | cons q l ih =>
    obtain ⟨h₁, h₂, h₃⟩ := reducer_spec p q
    obtain ⟨k₁, k₂⟩ := ih (reducer_argmax_f32_i32 p q)
    refine ⟨?_, fun r hr => ?_⟩
    · rw [List.foldl_cons]
      rcases List.mem_cons.1 k₁ with k | k
      · rw [k]
        rcases h₁ with h | h <;> rw [h] <;> simp
      · exact List.mem_cons_of_mem _ (List.mem_cons_of_mem _ k)
    · rw [List.foldl_cons]
      rcases List.mem_cons.1 hr with rfl | hr
      · exact h₂.trans (k₂ _ List.mem_cons_self)
      · rcases List.mem_cons.1 hr with rfl | hr
        · exact h₃.trans (k₂ _ List.mem_cons_self)
        · exact k₂ _ (List.mem_cons_of_mem _ hr)

/-- The pairs the arg-max at row `b`, window `i` is over. -/
theorem mem_fiber (x : S8x128x257.Idx → Ideal .f32) (b : Fin 8) (i : Fin 257) (p : Ideal .f32 × BitVec 32) :
    p ∈ Host.argReduceFiber x (iotaInDim S8x128x257 32 1) reducesTo_S8x128x257_S8x257_d1 (ix2 b i)
      ↔ ∃ c : Fin 128, p = (x (ix3 b c i), BitVec.ofNat 32 c.val) := by
  unfold Host.argReduceFiber
  rw [List.mem_map]
  constructor
  · rintro ⟨n, hn, rfl⟩
    have hd := (Shape.ReducesTo.fiber_r3_a1 reducesTo_S8x128x257_S8x257_d1 _ _).1 (of_decide_eq_true (List.mem_filter.1 hn).2)
    obtain ⟨c, hc⟩ := hd
    refine ⟨c, ?_⟩
    rw [← hc]
    rfl
  · rintro ⟨c, rfl⟩
    refine ⟨S8x128x257.rowMajor (ix3 b c i), List.mem_filter.2 ⟨List.mem_finRange _, ?_⟩, ?_⟩
    · refine decide_eq_true ?_
      rw [Equiv.symm_apply_apply]
      exact (Shape.ReducesTo.fiber_r3_a1 reducesTo_S8x128x257_S8x257_d1 _ _).2 ⟨c, rfl⟩
    · rw [Equiv.symm_apply_apply]
      rfl

/-- The arg-max of counts is their mode. -/
theorem argF_apply (x : S8x128x257.Idx → Ideal .f32) (N : ℕ → ℕ) (b : Fin 8) (i : Fin 257)
    (hx : ∀ c : Fin 128, x (ix3 b c i) = ((N c.val : ℝ) : EReal)) : argF (F := Ideal) x (ix2 b i) = BitVec.ofNat 32 (mode N) := by
  unfold argF
  rw [Ideal.argReduce_eq_reduce2, Host.reduce2_eq_foldl_fiber]
  generalize hp : ((constant S_ .f32 0xFF800000#32 : S_.Idx → Ideal .f32) (Shape.Idx.first h_S_), constantI S_ 32 0#32 (Shape.Idx.first h_S_)) = p₀
  obtain ⟨h₁, h₂⟩ := foldl_spec (Host.argReduceFiber x (iotaInDim S8x128x257 32 1) reducesTo_S8x128x257_S8x257_d1 (ix2 b i)) p₀
  have hbot : (p₀.1 : EReal) = ⊥ := by
    rw [← hp]
    show Ideal.ofBits .f32 0xFF800000#32 = ⊥
    simp [Ideal.ofBits, Ideal.ieee]
  have hle : ∀ c : Fin 128, Beats (x (ix3 b c i), BitVec.ofNat 32 c.val) _ := fun c =>
    h₂ _ (List.mem_cons_of_mem _ ((mem_fiber x b i _).2 ⟨c, rfl⟩))
  rcases List.mem_cons.1 h₁ with h | h
  · exfalso
    have := hle 0
    rw [h, hx] at this
    unfold Beats at this
    rw [hbot] at this
    rcases this with h | ⟨h, -⟩
    · exact absurd h not_lt_bot
    · exact EReal.coe_ne_bot _ h
  · obtain ⟨r, hr⟩ := (mem_fiber x b i _).1 h
    rw [hr] at hle ⊢
    have int : ∀ c : Fin 128, (BitVec.ofNat 32 c.val).toInt = (c.val : ℤ) := by
      intro c
      have := c.isLt
      rw [BitVec.toInt_eq_toNat_cond, BitVec.toNat_ofNat, Nat.mod_eq_of_lt (by omega), if_pos (by omega)]
    have key : ∀ c : Fin 128, N c.val < N r.val ∨ (N c.val = N r.val ∧ r.val ≤ c.val) := by
      intro c
      have := hle c
      unfold Beats at this
      simp only [hx, int, EReal.coe_lt_coe_iff, EReal.coe_eq_coe_iff, Nat.cast_lt, Nat.cast_inj, Nat.cast_le] at this
      exact this
    have hm : IsMode N r.val := by
      refine ⟨r.isLt, fun c hc => ?_, fun c hc => ?_⟩
      · rcases key ⟨c, hc⟩ with h | h
        · exact h.le
        · exact h.1.le
      · rcases key ⟨c, lt_trans hc r.isLt⟩ with h | h
        · exact h
        · exact absurd h.2 (not_le.2 hc)
    rw [hm.eq_mode]

theorem wcount_congr {G G' : ℕ → ℕ} (h : ∀ n < 32768, G n = G' n) (t : ℕ) (ht : t < 257) (c : ℕ) : wcount G t c = wcount G' t c := by
  unfold wcount
  refine Finset.sum_congr rfl fun p hp => ?_
  have := Finset.mem_range.1 hp
  rw [mir_src, mir_src, h _ (src_lt (by omega))]

/-- The reference's result, cell by cell. -/
theorem cell (x : S8x32768.Idx → BitVec 32) (hl : ∀ j, (x j).toNat < 128) (w : S1x1x1x4096.Idx → Ideal .f32) (hw : ∀ j, w j = (1 : EReal))
    (b : Fin 8) (i : Fin 257) (G : ℕ → ℕ) (hG : ∀ n (hn : n < 32768), G n = (x (ix2 b ⟨n, hn⟩)).toNat) :
    argF (cntF (F := Ideal) (fptosi 32 (padF (F := Ideal) (sitofp .f32 x))) idxF w) (ix2 b i) = BitVec.ofNat 32 (mode (wcount G i.val)) := by
  refine argF_apply _ _ b i fun c => cntF_apply _ w hw G b (fun p => ?_) c i
  show (FloatOps.fptosi (F := Ideal) 32 (padF (F := Ideal) (sitofp .f32 x) (ix2 b p)) : BitVec 32).toNat = _
  rw [padF_apply]
  show (FloatOps.fptosi (F := Ideal) (φ := .f32) 32 (FloatOps.sitofp (F := Ideal) .f32 (x (ix2 b ⟨src p.val, src_lt p.isLt⟩)))).toNat = _
  rw [label_back (hl _), mir_src, hG _ (src_lt p.isLt)]

end Cert.Proof.Ref
-- ==== Proof.Pre.lean ====
module

public import proofs.«01_k».proof.Defs
public import proofs.«01_k».proof.Proof.Gen.Pre_in_range
public import proofs.«01_k».proof.Proof.Gen.Pre_inputs
public import Idealize.ShloMosaic.Lib.ReduceAll
public import Idealize.ShloMosaic.PureOps.Ideal

/-!
# What the preconditions say

The labels are below 128 and, where the values are compared, every weight is one.
-/

@[expose] public section

noncomputable section

namespace Cert.Proof.Pre

open Idealize.ShloMosaic

theorem bit_and {x y : BitVec 1} (h : IntOp.andi x y = 1#1) : x = 1#1 ∧ y = 1#1 := by
  revert x y
  decide

theorem bit_of {b : Bool} (h : BitVec.ofBool b = 1#1) : b = true := by
  cases b
  · exact absurd h (by decide)
  · rfl

theorem below {v : BitVec 32} (h : IntOp.andi (IntOp.cmpi .sge v 0#32) (IntOp.cmpi .slt v 128#32) = 1#1) : v.toNat < 128 := by
  obtain ⟨h₁, h₂⟩ := bit_and h
  have h₁ := bit_of h₁
  have h₂ := bit_of h₂
  simp only [BitVec.sle_eq_decide, BitVec.slt_eq_decide, decide_eq_true_eq, BitVec.toInt_eq_toNat_cond, BitVec.toNat_ofNat, Nat.reducePow,
    Nat.reduceMod] at h₁ h₂
  split_ifs at h₁ h₂ <;> omega

variable {F : FTy → Type} [FloatOps F]

theorem range_labels (x : IVec Cert.Pre_in_range.S8x32768 32) (w : FVec F Cert.Pre_in_range.S1x1x1x4096 .f32)
    (h : Cert.Pre_in_range.fn (F := F) x w = fun _ => 1#1) (j : Cert.Pre_in_range.S8x32768.Idx) : (x j).toNat < 128 := by
  have e := congrFun h (Shape.Idx.first Cert.Pre_in_range.Gen.facts.h_S_)
  dsimp only [Cert.Pre_in_range.fn] at e
  haveI : Subsingleton Cert.Pre_in_range.S_.Idx := ⟨fun a b => funext fun k => k.elim0⟩
  exact below (Host.reduce_andi_all _ _ _ _ _ e j)

theorem inputs_both (x : IVec Cert.Pre_inputs.S8x32768 32) (w : FVec Ideal Cert.Pre_inputs.S1x1x1x4096 .f32)
    (h : Cert.Pre_inputs.fn (F := Ideal) x w = fun _ => 1#1) : (∀ j, (x j).toNat < 128) ∧ ∀ j, w j = (1 : EReal) := by
  have e := congrFun h (Shape.Idx.first Cert.Pre_inputs.Gen.facts.h_S_)
  dsimp only [Cert.Pre_inputs.fn] at e
  haveI : Subsingleton Cert.Pre_inputs.S_.Idx := ⟨fun a b => funext fun k => k.elim0⟩
  obtain ⟨e₁, e₂⟩ := bit_and e
  refine ⟨fun j => below (Host.reduce_andi_all _ _ _ _ _ e₁ j), fun j => ?_⟩
  have k := of_decide_eq_true (bit_of (Host.reduce_andi_all _ _ _ _ _ e₂ j))
  refine k.trans ?_
  show Ideal.ofBits .f32 0x3F800000#32 = 1
  simp [Ideal.ofBits, Ideal.ieee, -EReal.coe_mul]
  norm_num

end Cert.Proof.Pre
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.Pre_inputs
public import proofs.«01_k».proof.Proof.Ends
public import proofs.«01_k».proof.Proof.RefValue
public import proofs.«01_k».proof.Proof.Pre

@[expose] public section

noncomputable section

namespace Cert.Proof

open Idealize.ShloMosaic Idealize.SL.Sem
open Cert.Proof.Count

section
open Cert.KernelIdeal Cert.KernelIdeal.Gen
variable {F : FTy → Type} [FloatOps F]

/-- The kernel's run ends with the arguments as they were and every counter zero. -/
theorem args_of (m : (ℓ : Loc nD τ sig) → Buf (Elt F) ℓ) {r : PUnit × MemSt nD τ sig (Elt F)} (h : Tile.QC m r) :
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 := by
  refine ⟨fun c => ?_, h.2⟩
  obtain ⟨g, -, hb⟩ := h.1 c
  exact ⟨(hb main_arg0).trans (Tile.endV_arg m c g main_arg0 (Or.inl rfl)), (hb main_arg1).trans (Tile.endV_arg m c g main_arg1 (Or.inr rfl))⟩

theorem range_ok (m : (ℓ : Loc nD τ sig) → Buf (Elt F) ℓ)
    (h : ∀ c : Dev nD, Cert.Pre_in_range.fn (F := F) (m ((c.tc : Thread nD τ).loc main_arg0)) (m ((c.tc : Thread nD τ).loc main_arg1)) = fun _ => 1#1) :
    Tile.LabOK m :=
  Tile.labOK_of m fun d j => Pre.range_labels _ _ (h d) j

end

instance nonempty_bits : ∀ e, Nonempty (Elt Bits e) := fun e => by cases e <;> exact ⟨0⟩
instance nonempty_ideal : ∀ e, Nonempty (Elt Ideal e) := fun e => by cases e <;> first | exact ⟨(0 : BitVec _)⟩ | exact ⟨(0 : EReal)⟩

theorem frame_kernel : Cert.quiescent_Kernel := fun m ρ hp =>
  (θ_run Cert.KernelIdeal.defs _ _).mono (fun _ h => args_of (F := Bits) m h) (Tile.run_main (F := Bits) m ρ (range_ok m hp))

theorem frame_kernelIdeal : Cert.quiescent_KernelIdeal := fun m ρ hp =>
  (θ_run Cert.KernelIdeal.defs _ _).mono (fun _ h => args_of (F := Ideal) m h) (Tile.run_main (F := Ideal) m ρ (range_ok m hp))

theorem inputs_ok (m : (ℓ : Loc Cert.KernelIdeal.nD Cert.KernelIdeal.τ Cert.KernelIdeal.sig) → Buf (Elt Ideal) ℓ) (hp : Cert.Pre_KernelIdeal_inputs m) :
    Tile.LabOK m :=
  Tile.labOK_of m fun d j => (Pre.inputs_both _ _ (hp d)).1 j

theorem frame_kernelIdeal_inputs : Cert.quiescent_KernelIdeal_pre_inputs := fun m ρ hp =>
  (θ_run Cert.KernelIdeal.defs _ _).mono (fun _ h => args_of (F := Ideal) m h) (Tile.run_main (F := Ideal) m ρ (inputs_ok m hp))

section
open Cert.ReferenceIdeal Cert.ReferenceIdeal.Gen

theorem ref_args (m : (ℓ : Loc nD τ sig) → Buf (Elt Ideal) ℓ) {r : PUnit × MemSt nD τ sig (Elt Ideal)}
    (h : ∀ (d : Dev nD) (b : Ref sig .tc), r.2.mem ((d.tc : Thread nD τ).loc b) = StableHlo.after Ref.ops (StableHlo.launchContents m d) (Proc.devRef .tc b))
    (c : Dev nD) : r.2.mem ((c.tc : Thread nD τ).loc main_arg0) = m ((c.tc : Thread nD τ).loc main_arg0)
      ∧ r.2.mem ((c.tc : Thread nD τ).loc main_arg1) = m ((c.tc : Thread nD τ).loc main_arg1) :=
  ⟨(h c main_arg0).trans (Ref.keep _ (by decide) (by decide) (by decide) (by decide)),
   (h c main_arg1).trans (Ref.keep _ (by decide) (by decide) (by decide) (by decide))⟩

theorem ref_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r h => ⟨ref_args m h, Ref.sem_zero r.2⟩) (Ref.run_main m ρ)

end

theorem frame_reference : Cert.quiescent_ReferenceIdeal := fun m ρ _ => ref_frame m ρ
theorem frame_reference_inputs : Cert.quiescent_ReferenceIdeal_pre_inputs := fun m ρ _ => ref_frame m ρ

/-- The results: at row `b` and window `i`, the mode of the window. -/
def modes (x : Cert.KernelIdeal.S8x32768.Idx → BitVec 32) : Cert.KernelIdeal.S8x257.Idx → BitVec 32 := fun j =>
  BitVec.ofNat 32 (mode (Tile.wcount (Tile.labels (Tile.flatOf x) (j 0).val) (j 1).val))

theorem ix2_of (j : Cert.KernelIdeal.S8x257.Idx) : ∃ (b : Fin 8) (i : Fin 257), j = ix2 b i := by
  refine ⟨j 0, j 1, funext fun a => ?_⟩
  match a with
  | ⟨0, _⟩ => rfl
  | ⟨1, _⟩ => rfl

theorem values : Cert.algebraic_KernelIdeal_ReferenceIdeal_pre_inputs := by
  intro m g m' g' hp hm
  refine ⟨fun c => modes (m ((c.tc : Thread Cert.KernelIdeal.nD Cert.KernelIdeal.τ).loc Cert.KernelIdeal.main_arg0)), ?_, ?_⟩
  · refine (θ_run Cert.KernelIdeal.defs _ _).mono (fun r h c => ?_) (Tile.run_main (F := Ideal) m g (inputs_ok m hp))
    refine ⟨?_, (args_of m h).1 c⟩
    obtain ⟨b, hg, hb⟩ := h.1 c
    refine (hb Cert.KernelIdeal.main_v11).trans (funext fun j => ?_)
    obtain ⟨q, i, rfl⟩ := ix2_of j
    exact Tile.out_cell m c b hg q i
  · refine (θ_run Cert.ReferenceIdeal.defs _ _).mono (fun r h c => ?_) (Ref.run_main m' g')
    refine ⟨?_, ref_args m' h c⟩
    refine (h c Cert.ReferenceIdeal.main_v28).trans ((Ref.left _).trans (funext fun j => ?_))
    obtain ⟨q, i, rfl⟩ := ix2_of j
    obtain ⟨hl, hw⟩ := Pre.inputs_both _ _ (hp c)
    have e0 := (hm c).1
    have e1 := (hm c).2
    refine Ref.cell _ (fun k => ?_) _ (fun k => ?_) q i _ (fun n hn => ?_)
    · exact (congrArg BitVec.toNat (congrFun e0 k)).trans_lt (hl k)
    · exact (congrFun e1 k).trans (hw k)
    · exact (Tile.labels_eq _ q n hn).trans (congrArg BitVec.toNat (congrFun e0 (ix2 q ⟨n, hn⟩))).symm

theorem claim : Cert.Claim :=
  ⟨Cert.Kernel.Gen.facts, Cert.KernelIdeal.Gen.facts, Cert.ReferenceIdeal.Gen.facts, Cert.Pre_in_range.Gen.facts, Cert.Pre_inputs.Gen.facts,
    frame_kernel, frame_kernelIdeal, frame_kernelIdeal_inputs, frame_reference, frame_reference_inputs, trivial, values⟩

end Cert.Proof

end
